-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S8192x768 : Shape := ⟨2, ![8192, 768]⟩
abbrev S16x768 : Shape := ⟨2, ![16, 768]⟩
abbrev S_ : Shape := ⟨0, ![]⟩
abbrev S1x16x768 : Shape := ⟨3, ![1, 16, 768]⟩
abbrev S1x16 : Shape := ⟨2, ![1, 16]⟩
abbrev S16 : Shape := ⟨1, ![16]⟩

abbrev nBuf : Table → Nat
  | .hbm => 3
  | .local .scVector .vmem => 8
  | _ => 0

abbrev bufTy : (tb : Table) → Fin (nBuf tb) → BufTy
  | .hbm, ⟨0, _⟩ => ⟨S4x8192x768, .f32⟩
  | .hbm, ⟨1, _⟩ => ⟨S8192x768, .f32⟩
  | .hbm, ⟨2, _⟩ => ⟨S4x8192x768, .f32⟩
  | .local .scVector .vmem, ⟨0, _⟩ => ⟨S16x768, .f32⟩
  | .local .scVector .vmem, ⟨1, _⟩ => ⟨S16x768, .f32⟩
  | .local .scVector .vmem, ⟨2, _⟩ => ⟨S16x768, .f32⟩
  | .local .scVector .vmem, ⟨3, _⟩ => ⟨S16x768, .f32⟩
  | .local .scVector .vmem, ⟨4, _⟩ => ⟨S16x768, .f32⟩
  | .local .scVector .vmem, ⟨5, _⟩ => ⟨S16x768, .f32⟩
  | .local .scVector .vmem, ⟨6, _⟩ => ⟨S16x768, .f32⟩
  | .local .scVector .vmem, ⟨7, _⟩ => ⟨S16x768, .f32⟩
  | _, _ => ⟨S4x8192x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_0 : BitVec 32 := 0#32
  ![v3.toNat, 0]
def k0_off2 (i : grid0.Coords) (c0_i32_2 : BitVec 32) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v6 : BitVec 32 := Scalar.addi v2 c0_i32_2
  let c0_i32_4 : BitVec 32 := 0#32
  ![0, v6.toNat, 0]
def k0_off3 (i : grid0.Coords) (c0_i32_6 : BitVec 32) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v11 : BitVec 32 := Scalar.addi v2 c0_i32_6
  let c0_i32_7 : BitVec 32 := 0#32
  ![1, v11.toNat, 0]
def k0_off4 (i : grid0.Coords) (c0_i32_9 : BitVec 32) : Fin 3 → Nat :=
  let c2_i32_10 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v16 : BitVec 32 := Scalar.addi v2 c0_i32_9
  let c0_i32_11 : BitVec 32 := 0#32
  ![2, v16.toNat, 0]
def k0_off5 (i : grid0.Coords) (c0_i32_20 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v30 : BitVec 32 := Scalar.addi v2 c0_i32_20
  let c0_i32_21 : BitVec 32 := 0#32
  ![3, v30.toNat, 0]
@[reducible] def k0_t1_loop : Scf.Loop 32 :=
  let c0_i32_23 : BitVec 32 := 0#32
  let c16_i32_24 : BitVec 32 := 16#32
  let v35 : BitVec 32 := Scalar.addi c0_i32_23 c16_i32_24
  let c1_i32_25 : BitVec 32 := 1#32
  ⟨c0_i32_23, v35, c1_i32_25⟩
@[reducible] def k0_t2_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off6 (k0_t1 : Fin k0_t1_loop.trips) (k0_t2 : Fin k0_t2_loop.trips) : Fin 2 → Nat :=
  let c0_i32_1215 : BitVec 32 := 0#32
  let c0_i32_23 : BitVec 32 := 0#32
  let c1_i32_25 : BitVec 32 := 1#32
  let arg27 : BitVec 32 := Scf.iv c0_i32_23 c1_i32_25 k0_t1
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t2
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t3_loop : Scf.Loop 32 :=
  let c0_i32_38 : BitVec 32 := 0#32
  let c16_i32_39 : BitVec 32 := 16#32
  let v50 : BitVec 32 := Scalar.addi c0_i32_38 c16_i32_39
  let c1_i32_40 : BitVec 32 := 1#32
  ⟨c0_i32_38, v50, c1_i32_40⟩
@[reducible] def k0_t4_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off7 (k0_t3 : Fin k0_t3_loop.trips) (k0_t4 : Fin k0_t4_loop.trips) : Fin 2 → Nat :=
  let c0_i32_1215 : BitVec 32 := 0#32
  let c0_i32_38 : BitVec 32 := 0#32
  let c1_i32_40 : BitVec 32 := 1#32
  let arg27 : BitVec 32 := Scf.iv c0_i32_38 c1_i32_40 k0_t3
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t4
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t5_loop : Scf.Loop 32 :=
  let c0_i32_53 : BitVec 32 := 0#32
  let c16_i32_54 : BitVec 32 := 16#32
  let v65 : BitVec 32 := Scalar.addi c0_i32_53 c16_i32_54
  let c1_i32_55 : BitVec 32 := 1#32
  ⟨c0_i32_53, v65, c1_i32_55⟩
@[reducible] def k0_t6_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off8 (k0_t5 : Fin k0_t5_loop.trips) (k0_t6 : Fin k0_t6_loop.trips) : Fin 2 → Nat :=
  let c0_i32_1215 : BitVec 32 := 0#32
  let c0_i32_53 : BitVec 32 := 0#32
  let c1_i32_55 : BitVec 32 := 1#32
  let arg27 : BitVec 32 := Scf.iv c0_i32_53 c1_i32_55 k0_t5
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t6
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t7_loop : Scf.Loop 32 :=
  let c0_i32_71 : BitVec 32 := 0#32
  let c16_i32_72 : BitVec 32 := 16#32
  let v84 : BitVec 32 := Scalar.addi c0_i32_71 c16_i32_72
  let c1_i32_73 : BitVec 32 := 1#32
  ⟨c0_i32_71, v84, c1_i32_73⟩
@[reducible] def k0_t8_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off9 (k0_t7 : Fin k0_t7_loop.trips) (k0_t8 : Fin k0_t8_loop.trips) : Fin 2 → Nat :=
  let c0_i32_1215 : BitVec 32 := 0#32
  let c0_i32_71 : BitVec 32 := 0#32
  let c1_i32_73 : BitVec 32 := 1#32
  let arg27 : BitVec 32 := Scf.iv c0_i32_71 c1_i32_73 k0_t7
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t8
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t9_loop : Scf.Loop 32 :=
  let c0_i32_93 : BitVec 32 := 0#32
  let c16_i32_94 : BitVec 32 := 16#32
  let v108 : BitVec 32 := Scalar.addi c0_i32_93 c16_i32_94
  let c1_i32_95 : BitVec 32 := 1#32
  ⟨c0_i32_93, v108, c1_i32_95⟩
@[reducible] def k0_t10_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off10 (k0_t9 : Fin k0_t9_loop.trips) (k0_t10 : Fin k0_t10_loop.trips) : Fin 2 → Nat :=
  let c0_i32_1215 : BitVec 32 := 0#32
  let c0_i32_93 : BitVec 32 := 0#32
  let c1_i32_95 : BitVec 32 := 1#32
  let arg27 : BitVec 32 := Scf.iv c0_i32_93 c1_i32_95 k0_t9
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t10
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t11_loop : Scf.Loop 32 :=
  let c0_i32_111 : BitVec 32 := 0#32
  let c16_i32_112 : BitVec 32 := 16#32
  let v127 : BitVec 32 := Scalar.addi c0_i32_111 c16_i32_112
  let c1_i32_113 : BitVec 32 := 1#32
  ⟨c0_i32_111, v127, c1_i32_113⟩
@[reducible] def k0_t12_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off11 (k0_t11 : Fin k0_t11_loop.trips) (k0_t12 : Fin k0_t12_loop.trips) : Fin 2 → Nat :=
  let c0_i32_1215 : BitVec 32 := 0#32
  let c0_i32_111 : BitVec 32 := 0#32
  let c1_i32_113 : BitVec 32 := 1#32
  let arg27 : BitVec 32 := Scf.iv c0_i32_111 c1_i32_113 k0_t11
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t12
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t13_loop : Scf.Loop 32 :=
  let c0_i32_129 : BitVec 32 := 0#32
  let c16_i32_130 : BitVec 32 := 16#32
  let v146 : BitVec 32 := Scalar.addi c0_i32_129 c16_i32_130
  let c1_i32_131 : BitVec 32 := 1#32
  ⟨c0_i32_129, v146, c1_i32_131⟩
@[reducible] def k0_t14_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off12 (k0_t13 : Fin k0_t13_loop.trips) (k0_t14 : Fin k0_t14_loop.trips) : Fin 2 → Nat :=
  let c0_i32_1215 : BitVec 32 := 0#32
  let c0_i32_129 : BitVec 32 := 0#32
  let c1_i32_131 : BitVec 32 := 1#32
  let arg27 : BitVec 32 := Scf.iv c0_i32_129 c1_i32_131 k0_t13
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t14
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t15_loop : Scf.Loop 32 :=
  let c0_i32_147 : BitVec 32 := 0#32
  let c16_i32_148 : BitVec 32 := 16#32
  let v165 : BitVec 32 := Scalar.addi c0_i32_147 c16_i32_148
  let c1_i32_149 : BitVec 32 := 1#32
  ⟨c0_i32_147, v165, c1_i32_149⟩
@[reducible] def k0_t16_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off13 (k0_t15 : Fin k0_t15_loop.trips) (k0_t16 : Fin k0_t16_loop.trips) : Fin 2 → Nat :=
  let c0_i32_1215 : BitVec 32 := 0#32
  let c0_i32_147 : BitVec 32 := 0#32
  let c1_i32_149 : BitVec 32 := 1#32
  let arg27 : BitVec 32 := Scf.iv c0_i32_147 c1_i32_149 k0_t15
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t16
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t17_loop : Scf.Loop 32 :=
  let c0_i32_169 : BitVec 32 := 0#32
  let c16_i32_170 : BitVec 32 := 16#32
  let v189 : BitVec 32 := Scalar.addi c0_i32_169 c16_i32_170
  let c1_i32_171 : BitVec 32 := 1#32
  ⟨c0_i32_169, v189, c1_i32_171⟩
@[reducible] def k0_t18_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off14 (k0_t17 : Fin k0_t17_loop.trips) (k0_t18 : Fin k0_t18_loop.trips) : Fin 2 → Nat :=
  let c0_i32_1215 : BitVec 32 := 0#32
  let c0_i32_169 : BitVec 32 := 0#32
  let c1_i32_171 : BitVec 32 := 1#32
  let arg27 : BitVec 32 := Scf.iv c0_i32_169 c1_i32_171 k0_t17
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t18
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t19_loop : Scf.Loop 32 :=
  let c0_i32_187 : BitVec 32 := 0#32
  let c16_i32_188 : BitVec 32 := 16#32
  let v208 : BitVec 32 := Scalar.addi c0_i32_187 c16_i32_188
  let c1_i32_189 : BitVec 32 := 1#32
  ⟨c0_i32_187, v208, c1_i32_189⟩
@[reducible] def k0_t20_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off15 (k0_t19 : Fin k0_t19_loop.trips) (k0_t20 : Fin k0_t20_loop.trips) : Fin 2 → Nat :=
  let c0_i32_1215 : BitVec 32 := 0#32
  let c0_i32_187 : BitVec 32 := 0#32
  let c1_i32_189 : BitVec 32 := 1#32
  let arg27 : BitVec 32 := Scf.iv c0_i32_187 c1_i32_189 k0_t19
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t20
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t21_loop : Scf.Loop 32 :=
  let c0_i32_205 : BitVec 32 := 0#32
  let c16_i32_206 : BitVec 32 := 16#32
  let v227 : BitVec 32 := Scalar.addi c0_i32_205 c16_i32_206
  let c1_i32_207 : BitVec 32 := 1#32
  ⟨c0_i32_205, v227, c1_i32_207⟩
@[reducible] def k0_t22_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off16 (k0_t21 : Fin k0_t21_loop.trips) (k0_t22 : Fin k0_t22_loop.trips) : Fin 2 → Nat :=
  let c0_i32_1215 : BitVec 32 := 0#32
  let c0_i32_205 : BitVec 32 := 0#32
  let c1_i32_207 : BitVec 32 := 1#32
  let arg27 : BitVec 32 := Scf.iv c0_i32_205 c1_i32_207 k0_t21
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t22
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t23_loop : Scf.Loop 32 :=
  let c0_i32_223 : BitVec 32 := 0#32
  let c16_i32_224 : BitVec 32 := 16#32
  let v246 : BitVec 32 := Scalar.addi c0_i32_223 c16_i32_224
  let c1_i32_225 : BitVec 32 := 1#32
  ⟨c0_i32_223, v246, c1_i32_225⟩
@[reducible] def k0_t24_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off17 (k0_t23 : Fin k0_t23_loop.trips) (k0_t24 : Fin k0_t24_loop.trips) : Fin 2 → Nat :=
  let c0_i32_1215 : BitVec 32 := 0#32
  let c0_i32_223 : BitVec 32 := 0#32
  let c1_i32_225 : BitVec 32 := 1#32
  let arg27 : BitVec 32 := Scf.iv c0_i32_223 c1_i32_225 k0_t23
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t24
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t25_loop : Scf.Loop 32 :=
  let c0_i32_245 : BitVec 32 := 0#32
  let c16_i32_246 : BitVec 32 := 16#32
  let v270 : BitVec 32 := Scalar.addi c0_i32_245 c16_i32_246
  let c1_i32_247 : BitVec 32 := 1#32
  ⟨c0_i32_245, v270, c1_i32_247⟩
@[reducible] def k0_t26_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off18 (k0_t25 : Fin k0_t25_loop.trips) (k0_t26 : Fin k0_t26_loop.trips) : Fin 2 → Nat :=
  let c0_i32_1215 : BitVec 32 := 0#32
  let c0_i32_245 : BitVec 32 := 0#32
  let c1_i32_247 : BitVec 32 := 1#32
  let arg27 : BitVec 32 := Scf.iv c0_i32_245 c1_i32_247 k0_t25
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t26
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t27_loop : Scf.Loop 32 :=
  let c0_i32_263 : BitVec 32 := 0#32
  let c16_i32_264 : BitVec 32 := 16#32
  let v289 : BitVec 32 := Scalar.addi c0_i32_263 c16_i32_264
  let c1_i32_265 : BitVec 32 := 1#32
  ⟨c0_i32_263, v289, c1_i32_265⟩
@[reducible] def k0_t28_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off19 (k0_t27 : Fin k0_t27_loop.trips) (k0_t28 : Fin k0_t28_loop.trips) : Fin 2 → Nat :=
  let c0_i32_1215 : BitVec 32 := 0#32
  let c0_i32_263 : BitVec 32 := 0#32
  let c1_i32_265 : BitVec 32 := 1#32
  let arg27 : BitVec 32 := Scf.iv c0_i32_263 c1_i32_265 k0_t27
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t28
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t29_loop : Scf.Loop 32 :=
  let c0_i32_281 : BitVec 32 := 0#32
  let c16_i32_282 : BitVec 32 := 16#32
  let v308 : BitVec 32 := Scalar.addi c0_i32_281 c16_i32_282
  let c1_i32_283 : BitVec 32 := 1#32
  ⟨c0_i32_281, v308, c1_i32_283⟩
@[reducible] def k0_t30_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off20 (k0_t29 : Fin k0_t29_loop.trips) (k0_t30 : Fin k0_t30_loop.trips) : Fin 2 → Nat :=
  let c0_i32_1215 : BitVec 32 := 0#32
  let c0_i32_281 : BitVec 32 := 0#32
  let c1_i32_283 : BitVec 32 := 1#32
  let arg27 : BitVec 32 := Scf.iv c0_i32_281 c1_i32_283 k0_t29
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t30
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t31_loop : Scf.Loop 32 :=
  let c0_i32_299 : BitVec 32 := 0#32
  let c16_i32_300 : BitVec 32 := 16#32
  let v327 : BitVec 32 := Scalar.addi c0_i32_299 c16_i32_300
  let c1_i32_301 : BitVec 32 := 1#32
  ⟨c0_i32_299, v327, c1_i32_301⟩
@[reducible] def k0_t32_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off21 (k0_t31 : Fin k0_t31_loop.trips) (k0_t32 : Fin k0_t32_loop.trips) : Fin 2 → Nat :=
  let c0_i32_1215 : BitVec 32 := 0#32
  let c0_i32_299 : BitVec 32 := 0#32
  let c1_i32_301 : BitVec 32 := 1#32
  let arg27 : BitVec 32 := Scf.iv c0_i32_299 c1_i32_301 k0_t31
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t32
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t33_loop : Scf.Loop 32 :=
  let c0_i32_321 : BitVec 32 := 0#32
  let c16_i32_322 : BitVec 32 := 16#32
  let v351 : BitVec 32 := Scalar.addi c0_i32_321 c16_i32_322
  let c1_i32_323 : BitVec 32 := 1#32
  ⟨c0_i32_321, v351, c1_i32_323⟩
@[reducible] def k0_t34_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off22 (k0_t33 : Fin k0_t33_loop.trips) (k0_t34 : Fin k0_t34_loop.trips) : Fin 2 → Nat :=
  let c0_i32_1215 : BitVec 32 := 0#32
  let c0_i32_321 : BitVec 32 := 0#32
  let c1_i32_323 : BitVec 32 := 1#32
  let arg27 : BitVec 32 := Scf.iv c0_i32_321 c1_i32_323 k0_t33
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t34
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t35_loop : Scf.Loop 32 :=
  let c0_i32_339 : BitVec 32 := 0#32
  let c16_i32_340 : BitVec 32 := 16#32
  let v370 : BitVec 32 := Scalar.addi c0_i32_339 c16_i32_340
  let c1_i32_341 : BitVec 32 := 1#32
  ⟨c0_i32_339, v370, c1_i32_341⟩
@[reducible] def k0_t36_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off23 (k0_t35 : Fin k0_t35_loop.trips) (k0_t36 : Fin k0_t36_loop.trips) : Fin 2 → Nat :=
  let c0_i32_1215 : BitVec 32 := 0#32
  let c0_i32_339 : BitVec 32 := 0#32
  let c1_i32_341 : BitVec 32 := 1#32
  let arg27 : BitVec 32 := Scf.iv c0_i32_339 c1_i32_341 k0_t35
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t36
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t37_loop : Scf.Loop 32 :=
  let c0_i32_357 : BitVec 32 := 0#32
  let c16_i32_358 : BitVec 32 := 16#32
  let v389 : BitVec 32 := Scalar.addi c0_i32_357 c16_i32_358
  let c1_i32_359 : BitVec 32 := 1#32
  ⟨c0_i32_357, v389, c1_i32_359⟩
@[reducible] def k0_t38_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off24 (k0_t37 : Fin k0_t37_loop.trips) (k0_t38 : Fin k0_t38_loop.trips) : Fin 2 → Nat :=
  let c0_i32_1215 : BitVec 32 := 0#32
  let c0_i32_357 : BitVec 32 := 0#32
  let c1_i32_359 : BitVec 32 := 1#32
  let arg27 : BitVec 32 := Scf.iv c0_i32_357 c1_i32_359 k0_t37
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t38
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t39_loop : Scf.Loop 32 :=
  let c0_i32_375 : BitVec 32 := 0#32
  let c16_i32_376 : BitVec 32 := 16#32
  let v408 : BitVec 32 := Scalar.addi c0_i32_375 c16_i32_376
  let c1_i32_377 : BitVec 32 := 1#32
  ⟨c0_i32_375, v408, c1_i32_377⟩
@[reducible] def k0_t40_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off25 (k0_t39 : Fin k0_t39_loop.trips) (k0_t40 : Fin k0_t40_loop.trips) : Fin 2 → Nat :=
  let c0_i32_1215 : BitVec 32 := 0#32
  let c0_i32_375 : BitVec 32 := 0#32
  let c1_i32_377 : BitVec 32 := 1#32
  let arg27 : BitVec 32 := Scf.iv c0_i32_375 c1_i32_377 k0_t39
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t40
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t41_loop : Scf.Loop 32 :=
  let c0_i32_397 : BitVec 32 := 0#32
  let c16_i32_398 : BitVec 32 := 16#32
  let v432 : BitVec 32 := Scalar.addi c0_i32_397 c16_i32_398
  let c1_i32_399 : BitVec 32 := 1#32
  ⟨c0_i32_397, v432, c1_i32_399⟩
@[reducible] def k0_t42_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off26 (k0_t41 : Fin k0_t41_loop.trips) (k0_t42 : Fin k0_t42_loop.trips) : Fin 2 → Nat :=
  let c0_i32_1215 : BitVec 32 := 0#32
  let c0_i32_397 : BitVec 32 := 0#32
  let c1_i32_399 : BitVec 32 := 1#32
  let arg27 : BitVec 32 := Scf.iv c0_i32_397 c1_i32_399 k0_t41
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t42
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t43_loop : Scf.Loop 32 :=
  let c0_i32_415 : BitVec 32 := 0#32
  let c16_i32_416 : BitVec 32 := 16#32
  let v451 : BitVec 32 := Scalar.addi c0_i32_415 c16_i32_416
  let c1_i32_417 : BitVec 32 := 1#32
  ⟨c0_i32_415, v451, c1_i32_417⟩
@[reducible] def k0_t44_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off27 (k0_t43 : Fin k0_t43_loop.trips) (k0_t44 : Fin k0_t44_loop.trips) : Fin 2 → Nat :=
  let c0_i32_1215 : BitVec 32 := 0#32
  let c0_i32_415 : BitVec 32 := 0#32
  let c1_i32_417 : BitVec 32 := 1#32
  let arg27 : BitVec 32 := Scf.iv c0_i32_415 c1_i32_417 k0_t43
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t44
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t45_loop : Scf.Loop 32 :=
  let c0_i32_433 : BitVec 32 := 0#32
  let c16_i32_434 : BitVec 32 := 16#32
  let v470 : BitVec 32 := Scalar.addi c0_i32_433 c16_i32_434
  let c1_i32_435 : BitVec 32 := 1#32
  ⟨c0_i32_433, v470, c1_i32_435⟩
@[reducible] def k0_t46_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off28 (k0_t45 : Fin k0_t45_loop.trips) (k0_t46 : Fin k0_t46_loop.trips) : Fin 2 → Nat :=
  let c0_i32_1215 : BitVec 32 := 0#32
  let c0_i32_433 : BitVec 32 := 0#32
  let c1_i32_435 : BitVec 32 := 1#32
  let arg27 : BitVec 32 := Scf.iv c0_i32_433 c1_i32_435 k0_t45
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t46
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t47_loop : Scf.Loop 32 :=
  let c0_i32_451 : BitVec 32 := 0#32
  let c16_i32_452 : BitVec 32 := 16#32
  let v489 : BitVec 32 := Scalar.addi c0_i32_451 c16_i32_452
  let c1_i32_453 : BitVec 32 := 1#32
  ⟨c0_i32_451, v489, c1_i32_453⟩
@[reducible] def k0_t48_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off29 (k0_t47 : Fin k0_t47_loop.trips) (k0_t48 : Fin k0_t48_loop.trips) : Fin 2 → Nat :=
  let c0_i32_1215 : BitVec 32 := 0#32
  let c0_i32_451 : BitVec 32 := 0#32
  let c1_i32_453 : BitVec 32 := 1#32
  let arg27 : BitVec 32 := Scf.iv c0_i32_451 c1_i32_453 k0_t47
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t48
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t49_loop : Scf.Loop 32 :=
  let c0_i32_473 : BitVec 32 := 0#32
  let c16_i32_474 : BitVec 32 := 16#32
  let v513 : BitVec 32 := Scalar.addi c0_i32_473 c16_i32_474
  let c1_i32_475 : BitVec 32 := 1#32
  ⟨c0_i32_473, v513, c1_i32_475⟩
@[reducible] def k0_t50_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off30 (k0_t49 : Fin k0_t49_loop.trips) (k0_t50 : Fin k0_t50_loop.trips) : Fin 2 → Nat :=
  let c0_i32_1215 : BitVec 32 := 0#32
  let c0_i32_473 : BitVec 32 := 0#32
  let c1_i32_475 : BitVec 32 := 1#32
  let arg27 : BitVec 32 := Scf.iv c0_i32_473 c1_i32_475 k0_t49
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t50
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t51_loop : Scf.Loop 32 :=
  let c0_i32_491 : BitVec 32 := 0#32
  let c16_i32_492 : BitVec 32 := 16#32
  let v532 : BitVec 32 := Scalar.addi c0_i32_491 c16_i32_492
  let c1_i32_493 : BitVec 32 := 1#32
  ⟨c0_i32_491, v532, c1_i32_493⟩
@[reducible] def k0_t52_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off31 (k0_t51 : Fin k0_t51_loop.trips) (k0_t52 : Fin k0_t52_loop.trips) : Fin 2 → Nat :=
  let c0_i32_1215 : BitVec 32 := 0#32
  let c0_i32_491 : BitVec 32 := 0#32
  let c1_i32_493 : BitVec 32 := 1#32
  let arg27 : BitVec 32 := Scf.iv c0_i32_491 c1_i32_493 k0_t51
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t52
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t53_loop : Scf.Loop 32 :=
  let c0_i32_509 : BitVec 32 := 0#32
  let c16_i32_510 : BitVec 32 := 16#32
  let v551 : BitVec 32 := Scalar.addi c0_i32_509 c16_i32_510
  let c1_i32_511 : BitVec 32 := 1#32
  ⟨c0_i32_509, v551, c1_i32_511⟩
@[reducible] def k0_t54_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off32 (k0_t53 : Fin k0_t53_loop.trips) (k0_t54 : Fin k0_t54_loop.trips) : Fin 2 → Nat :=
  let c0_i32_1215 : BitVec 32 := 0#32
  let c0_i32_509 : BitVec 32 := 0#32
  let c1_i32_511 : BitVec 32 := 1#32
  let arg27 : BitVec 32 := Scf.iv c0_i32_509 c1_i32_511 k0_t53
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t54
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t55_loop : Scf.Loop 32 :=
  let c0_i32_527 : BitVec 32 := 0#32
  let c16_i32_528 : BitVec 32 := 16#32
  let v570 : BitVec 32 := Scalar.addi c0_i32_527 c16_i32_528
  let c1_i32_529 : BitVec 32 := 1#32
  ⟨c0_i32_527, v570, c1_i32_529⟩
@[reducible] def k0_t56_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off33 (k0_t55 : Fin k0_t55_loop.trips) (k0_t56 : Fin k0_t56_loop.trips) : Fin 2 → Nat :=
  let c0_i32_1215 : BitVec 32 := 0#32
  let c0_i32_527 : BitVec 32 := 0#32
  let c1_i32_529 : BitVec 32 := 1#32
  let arg27 : BitVec 32 := Scf.iv c0_i32_527 c1_i32_529 k0_t55
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t56
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t57_loop : Scf.Loop 32 :=
  let c0_i32_549 : BitVec 32 := 0#32
  let c16_i32_550 : BitVec 32 := 16#32
  let v594 : BitVec 32 := Scalar.addi c0_i32_549 c16_i32_550
  let c1_i32_551 : BitVec 32 := 1#32
  ⟨c0_i32_549, v594, c1_i32_551⟩
@[reducible] def k0_t58_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off34 (k0_t57 : Fin k0_t57_loop.trips) (k0_t58 : Fin k0_t58_loop.trips) : Fin 2 → Nat :=
  let c0_i32_1215 : BitVec 32 := 0#32
  let c0_i32_549 : BitVec 32 := 0#32
  let c1_i32_551 : BitVec 32 := 1#32
  let arg27 : BitVec 32 := Scf.iv c0_i32_549 c1_i32_551 k0_t57
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t58
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t59_loop : Scf.Loop 32 :=
  let c0_i32_567 : BitVec 32 := 0#32
  let c16_i32_568 : BitVec 32 := 16#32
  let v613 : BitVec 32 := Scalar.addi c0_i32_567 c16_i32_568
  let c1_i32_569 : BitVec 32 := 1#32
  ⟨c0_i32_567, v613, c1_i32_569⟩
@[reducible] def k0_t60_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off35 (k0_t59 : Fin k0_t59_loop.trips) (k0_t60 : Fin k0_t60_loop.trips) : Fin 2 → Nat :=
  let c0_i32_1215 : BitVec 32 := 0#32
  let c0_i32_567 : BitVec 32 := 0#32
  let c1_i32_569 : BitVec 32 := 1#32
  let arg27 : BitVec 32 := Scf.iv c0_i32_567 c1_i32_569 k0_t59
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t60
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t61_loop : Scf.Loop 32 :=
  let c0_i32_585 : BitVec 32 := 0#32
  let c16_i32_586 : BitVec 32 := 16#32
  let v632 : BitVec 32 := Scalar.addi c0_i32_585 c16_i32_586
  let c1_i32_587 : BitVec 32 := 1#32
  ⟨c0_i32_585, v632, c1_i32_587⟩
@[reducible] def k0_t62_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off36 (k0_t61 : Fin k0_t61_loop.trips) (k0_t62 : Fin k0_t62_loop.trips) : Fin 2 → Nat :=
  let c0_i32_1215 : BitVec 32 := 0#32
  let c0_i32_585 : BitVec 32 := 0#32
  let c1_i32_587 : BitVec 32 := 1#32
  let arg27 : BitVec 32 := Scf.iv c0_i32_585 c1_i32_587 k0_t61
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t62
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t63_loop : Scf.Loop 32 :=
  let c0_i32_603 : BitVec 32 := 0#32
  let c16_i32_604 : BitVec 32 := 16#32
  let v651 : BitVec 32 := Scalar.addi c0_i32_603 c16_i32_604
  let c1_i32_605 : BitVec 32 := 1#32
  ⟨c0_i32_603, v651, c1_i32_605⟩
@[reducible] def k0_t64_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off37 (k0_t63 : Fin k0_t63_loop.trips) (k0_t64 : Fin k0_t64_loop.trips) : Fin 2 → Nat :=
  let c0_i32_1215 : BitVec 32 := 0#32
  let c0_i32_603 : BitVec 32 := 0#32
  let c1_i32_605 : BitVec 32 := 1#32
  let arg27 : BitVec 32 := Scf.iv c0_i32_603 c1_i32_605 k0_t63
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t64
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t65_loop : Scf.Loop 32 :=
  let c0_i32_625 : BitVec 32 := 0#32
  let c16_i32_626 : BitVec 32 := 16#32
  let v675 : BitVec 32 := Scalar.addi c0_i32_625 c16_i32_626
  let c1_i32_627 : BitVec 32 := 1#32
  ⟨c0_i32_625, v675, c1_i32_627⟩
@[reducible] def k0_t66_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off38 (k0_t65 : Fin k0_t65_loop.trips) (k0_t66 : Fin k0_t66_loop.trips) : Fin 2 → Nat :=
  let c0_i32_1215 : BitVec 32 := 0#32
  let c0_i32_625 : BitVec 32 := 0#32
  let c1_i32_627 : BitVec 32 := 1#32
  let arg27 : BitVec 32 := Scf.iv c0_i32_625 c1_i32_627 k0_t65
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t66
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t67_loop : Scf.Loop 32 :=
  let c0_i32_643 : BitVec 32 := 0#32
  let c16_i32_644 : BitVec 32 := 16#32
  let v694 : BitVec 32 := Scalar.addi c0_i32_643 c16_i32_644
  let c1_i32_645 : BitVec 32 := 1#32
  ⟨c0_i32_643, v694, c1_i32_645⟩
@[reducible] def k0_t68_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off39 (k0_t67 : Fin k0_t67_loop.trips) (k0_t68 : Fin k0_t68_loop.trips) : Fin 2 → Nat :=
  let c0_i32_1215 : BitVec 32 := 0#32
  let c0_i32_643 : BitVec 32 := 0#32
  let c1_i32_645 : BitVec 32 := 1#32
  let arg27 : BitVec 32 := Scf.iv c0_i32_643 c1_i32_645 k0_t67
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t68
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t69_loop : Scf.Loop 32 :=
  let c0_i32_661 : BitVec 32 := 0#32
  let c16_i32_662 : BitVec 32 := 16#32
  let v713 : BitVec 32 := Scalar.addi c0_i32_661 c16_i32_662
  let c1_i32_663 : BitVec 32 := 1#32
  ⟨c0_i32_661, v713, c1_i32_663⟩
@[reducible] def k0_t70_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off40 (k0_t69 : Fin k0_t69_loop.trips) (k0_t70 : Fin k0_t70_loop.trips) : Fin 2 → Nat :=
  let c0_i32_1215 : BitVec 32 := 0#32
  let c0_i32_661 : BitVec 32 := 0#32
  let c1_i32_663 : BitVec 32 := 1#32
  let arg27 : BitVec 32 := Scf.iv c0_i32_661 c1_i32_663 k0_t69
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t70
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t71_loop : Scf.Loop 32 :=
  let c0_i32_679 : BitVec 32 := 0#32
  let c16_i32_680 : BitVec 32 := 16#32
  let v732 : BitVec 32 := Scalar.addi c0_i32_679 c16_i32_680
  let c1_i32_681 : BitVec 32 := 1#32
  ⟨c0_i32_679, v732, c1_i32_681⟩
@[reducible] def k0_t72_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off41 (k0_t71 : Fin k0_t71_loop.trips) (k0_t72 : Fin k0_t72_loop.trips) : Fin 2 → Nat :=
  let c0_i32_1215 : BitVec 32 := 0#32
  let c0_i32_679 : BitVec 32 := 0#32
  let c1_i32_681 : BitVec 32 := 1#32
  let arg27 : BitVec 32 := Scf.iv c0_i32_679 c1_i32_681 k0_t71
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t72
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t73_loop : Scf.Loop 32 :=
  let c0_i32_701 : BitVec 32 := 0#32
  let c16_i32_702 : BitVec 32 := 16#32
  let v756 : BitVec 32 := Scalar.addi c0_i32_701 c16_i32_702
  let c1_i32_703 : BitVec 32 := 1#32
  ⟨c0_i32_701, v756, c1_i32_703⟩
@[reducible] def k0_t74_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off42 (k0_t73 : Fin k0_t73_loop.trips) (k0_t74 : Fin k0_t74_loop.trips) : Fin 2 → Nat :=
  let c0_i32_1215 : BitVec 32 := 0#32
  let c0_i32_701 : BitVec 32 := 0#32
  let c1_i32_703 : BitVec 32 := 1#32
  let arg27 : BitVec 32 := Scf.iv c0_i32_701 c1_i32_703 k0_t73
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t74
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t75_loop : Scf.Loop 32 :=
  let c0_i32_719 : BitVec 32 := 0#32
  let c16_i32_720 : BitVec 32 := 16#32
  let v775 : BitVec 32 := Scalar.addi c0_i32_719 c16_i32_720
  let c1_i32_721 : BitVec 32 := 1#32
  ⟨c0_i32_719, v775, c1_i32_721⟩
@[reducible] def k0_t76_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off43 (k0_t75 : Fin k0_t75_loop.trips) (k0_t76 : Fin k0_t76_loop.trips) : Fin 2 → Nat :=
  let c0_i32_1215 : BitVec 32 := 0#32
  let c0_i32_719 : BitVec 32 := 0#32
  let c1_i32_721 : BitVec 32 := 1#32
  let arg27 : BitVec 32 := Scf.iv c0_i32_719 c1_i32_721 k0_t75
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t76
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t77_loop : Scf.Loop 32 :=
  let c0_i32_737 : BitVec 32 := 0#32
  let c16_i32_738 : BitVec 32 := 16#32
  let v794 : BitVec 32 := Scalar.addi c0_i32_737 c16_i32_738
  let c1_i32_739 : BitVec 32 := 1#32
  ⟨c0_i32_737, v794, c1_i32_739⟩
@[reducible] def k0_t78_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off44 (k0_t77 : Fin k0_t77_loop.trips) (k0_t78 : Fin k0_t78_loop.trips) : Fin 2 → Nat :=
  let c0_i32_1215 : BitVec 32 := 0#32
  let c0_i32_737 : BitVec 32 := 0#32
  let c1_i32_739 : BitVec 32 := 1#32
  let arg27 : BitVec 32 := Scf.iv c0_i32_737 c1_i32_739 k0_t77
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t78
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t79_loop : Scf.Loop 32 :=
  let c0_i32_755 : BitVec 32 := 0#32
  let c16_i32_756 : BitVec 32 := 16#32
  let v813 : BitVec 32 := Scalar.addi c0_i32_755 c16_i32_756
  let c1_i32_757 : BitVec 32 := 1#32
  ⟨c0_i32_755, v813, c1_i32_757⟩
@[reducible] def k0_t80_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off45 (k0_t79 : Fin k0_t79_loop.trips) (k0_t80 : Fin k0_t80_loop.trips) : Fin 2 → Nat :=
  let c0_i32_1215 : BitVec 32 := 0#32
  let c0_i32_755 : BitVec 32 := 0#32
  let c1_i32_757 : BitVec 32 := 1#32
  let arg27 : BitVec 32 := Scf.iv c0_i32_755 c1_i32_757 k0_t79
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t80
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t81_loop : Scf.Loop 32 :=
  let c0_i32_777 : BitVec 32 := 0#32
  let c16_i32_778 : BitVec 32 := 16#32
  let v837 : BitVec 32 := Scalar.addi c0_i32_777 c16_i32_778
  let c1_i32_779 : BitVec 32 := 1#32
  ⟨c0_i32_777, v837, c1_i32_779⟩
@[reducible] def k0_t82_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off46 (k0_t81 : Fin k0_t81_loop.trips) (k0_t82 : Fin k0_t82_loop.trips) : Fin 2 → Nat :=
  let c0_i32_1215 : BitVec 32 := 0#32
  let c0_i32_777 : BitVec 32 := 0#32
  let c1_i32_779 : BitVec 32 := 1#32
  let arg27 : BitVec 32 := Scf.iv c0_i32_777 c1_i32_779 k0_t81
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t82
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t83_loop : Scf.Loop 32 :=
  let c0_i32_795 : BitVec 32 := 0#32
  let c16_i32_796 : BitVec 32 := 16#32
  let v856 : BitVec 32 := Scalar.addi c0_i32_795 c16_i32_796
  let c1_i32_797 : BitVec 32 := 1#32
  ⟨c0_i32_795, v856, c1_i32_797⟩
@[reducible] def k0_t84_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off47 (k0_t83 : Fin k0_t83_loop.trips) (k0_t84 : Fin k0_t84_loop.trips) : Fin 2 → Nat :=
  let c0_i32_1215 : BitVec 32 := 0#32
  let c0_i32_795 : BitVec 32 := 0#32
  let c1_i32_797 : BitVec 32 := 1#32
  let arg27 : BitVec 32 := Scf.iv c0_i32_795 c1_i32_797 k0_t83
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t84
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t85_loop : Scf.Loop 32 :=
  let c0_i32_813 : BitVec 32 := 0#32
  let c16_i32_814 : BitVec 32 := 16#32
  let v875 : BitVec 32 := Scalar.addi c0_i32_813 c16_i32_814
  let c1_i32_815 : BitVec 32 := 1#32
  ⟨c0_i32_813, v875, c1_i32_815⟩
@[reducible] def k0_t86_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off48 (k0_t85 : Fin k0_t85_loop.trips) (k0_t86 : Fin k0_t86_loop.trips) : Fin 2 → Nat :=
  let c0_i32_1215 : BitVec 32 := 0#32
  let c0_i32_813 : BitVec 32 := 0#32
  let c1_i32_815 : BitVec 32 := 1#32
  let arg27 : BitVec 32 := Scf.iv c0_i32_813 c1_i32_815 k0_t85
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t86
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t87_loop : Scf.Loop 32 :=
  let c0_i32_831 : BitVec 32 := 0#32
  let c16_i32_832 : BitVec 32 := 16#32
  let v894 : BitVec 32 := Scalar.addi c0_i32_831 c16_i32_832
  let c1_i32_833 : BitVec 32 := 1#32
  ⟨c0_i32_831, v894, c1_i32_833⟩
@[reducible] def k0_t88_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off49 (k0_t87 : Fin k0_t87_loop.trips) (k0_t88 : Fin k0_t88_loop.trips) : Fin 2 → Nat :=
  let c0_i32_1215 : BitVec 32 := 0#32
  let c0_i32_831 : BitVec 32 := 0#32
  let c1_i32_833 : BitVec 32 := 1#32
  let arg27 : BitVec 32 := Scf.iv c0_i32_831 c1_i32_833 k0_t87
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t88
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t89_loop : Scf.Loop 32 :=
  let c0_i32_853 : BitVec 32 := 0#32
  let c16_i32_854 : BitVec 32 := 16#32
  let v918 : BitVec 32 := Scalar.addi c0_i32_853 c16_i32_854
  let c1_i32_855 : BitVec 32 := 1#32
  ⟨c0_i32_853, v918, c1_i32_855⟩
@[reducible] def k0_t90_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off50 (k0_t89 : Fin k0_t89_loop.trips) (k0_t90 : Fin k0_t90_loop.trips) : Fin 2 → Nat :=
  let c0_i32_1215 : BitVec 32 := 0#32
  let c0_i32_853 : BitVec 32 := 0#32
  let c1_i32_855 : BitVec 32 := 1#32
  let arg27 : BitVec 32 := Scf.iv c0_i32_853 c1_i32_855 k0_t89
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t90
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t91_loop : Scf.Loop 32 :=
  let c0_i32_871 : BitVec 32 := 0#32
  let c16_i32_872 : BitVec 32 := 16#32
  let v937 : BitVec 32 := Scalar.addi c0_i32_871 c16_i32_872
  let c1_i32_873 : BitVec 32 := 1#32
  ⟨c0_i32_871, v937, c1_i32_873⟩
@[reducible] def k0_t92_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off51 (k0_t91 : Fin k0_t91_loop.trips) (k0_t92 : Fin k0_t92_loop.trips) : Fin 2 → Nat :=
  let c0_i32_1215 : BitVec 32 := 0#32
  let c0_i32_871 : BitVec 32 := 0#32
  let c1_i32_873 : BitVec 32 := 1#32
  let arg27 : BitVec 32 := Scf.iv c0_i32_871 c1_i32_873 k0_t91
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t92
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t93_loop : Scf.Loop 32 :=
  let c0_i32_889 : BitVec 32 := 0#32
  let c16_i32_890 : BitVec 32 := 16#32
  let v956 : BitVec 32 := Scalar.addi c0_i32_889 c16_i32_890
  let c1_i32_891 : BitVec 32 := 1#32
  ⟨c0_i32_889, v956, c1_i32_891⟩
@[reducible] def k0_t94_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off52 (k0_t93 : Fin k0_t93_loop.trips) (k0_t94 : Fin k0_t94_loop.trips) : Fin 2 → Nat :=
  let c0_i32_1215 : BitVec 32 := 0#32
  let c0_i32_889 : BitVec 32 := 0#32
  let c1_i32_891 : BitVec 32 := 1#32
  let arg27 : BitVec 32 := Scf.iv c0_i32_889 c1_i32_891 k0_t93
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t94
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t95_loop : Scf.Loop 32 :=
  let c0_i32_907 : BitVec 32 := 0#32
  let c16_i32_908 : BitVec 32 := 16#32
  let v975 : BitVec 32 := Scalar.addi c0_i32_907 c16_i32_908
  let c1_i32_909 : BitVec 32 := 1#32
  ⟨c0_i32_907, v975, c1_i32_909⟩
@[reducible] def k0_t96_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off53 (k0_t95 : Fin k0_t95_loop.trips) (k0_t96 : Fin k0_t96_loop.trips) : Fin 2 → Nat :=
  let c0_i32_1215 : BitVec 32 := 0#32
  let c0_i32_907 : BitVec 32 := 0#32
  let c1_i32_909 : BitVec 32 := 1#32
  let arg27 : BitVec 32 := Scf.iv c0_i32_907 c1_i32_909 k0_t95
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t96
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t97_loop : Scf.Loop 32 :=
  let c0_i32_929 : BitVec 32 := 0#32
  let c16_i32_930 : BitVec 32 := 16#32
  let v999 : BitVec 32 := Scalar.addi c0_i32_929 c16_i32_930
  let c1_i32_931 : BitVec 32 := 1#32
  ⟨c0_i32_929, v999, c1_i32_931⟩
@[reducible] def k0_t98_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off54 (k0_t97 : Fin k0_t97_loop.trips) (k0_t98 : Fin k0_t98_loop.trips) : Fin 2 → Nat :=
  let c0_i32_1215 : BitVec 32 := 0#32
  let c0_i32_929 : BitVec 32 := 0#32
  let c1_i32_931 : BitVec 32 := 1#32
  let arg27 : BitVec 32 := Scf.iv c0_i32_929 c1_i32_931 k0_t97
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t98
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t99_loop : Scf.Loop 32 :=
  let c0_i32_947 : BitVec 32 := 0#32
  let c16_i32_948 : BitVec 32 := 16#32
  let v1018 : BitVec 32 := Scalar.addi c0_i32_947 c16_i32_948
  let c1_i32_949 : BitVec 32 := 1#32
  ⟨c0_i32_947, v1018, c1_i32_949⟩
@[reducible] def k0_t100_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off55 (k0_t99 : Fin k0_t99_loop.trips) (k0_t100 : Fin k0_t100_loop.trips) : Fin 2 → Nat :=
  let c0_i32_1215 : BitVec 32 := 0#32
  let c0_i32_947 : BitVec 32 := 0#32
  let c1_i32_949 : BitVec 32 := 1#32
  let arg27 : BitVec 32 := Scf.iv c0_i32_947 c1_i32_949 k0_t99
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t100
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t101_loop : Scf.Loop 32 :=
  let c0_i32_965 : BitVec 32 := 0#32
  let c16_i32_966 : BitVec 32 := 16#32
  let v1037 : BitVec 32 := Scalar.addi c0_i32_965 c16_i32_966
  let c1_i32_967 : BitVec 32 := 1#32
  ⟨c0_i32_965, v1037, c1_i32_967⟩
@[reducible] def k0_t102_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off56 (k0_t101 : Fin k0_t101_loop.trips) (k0_t102 : Fin k0_t102_loop.trips) : Fin 2 → Nat :=
  let c0_i32_1215 : BitVec 32 := 0#32
  let c0_i32_965 : BitVec 32 := 0#32
  let c1_i32_967 : BitVec 32 := 1#32
  let arg27 : BitVec 32 := Scf.iv c0_i32_965 c1_i32_967 k0_t101
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t102
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t103_loop : Scf.Loop 32 :=
  let c0_i32_983 : BitVec 32 := 0#32
  let c16_i32_984 : BitVec 32 := 16#32
  let v1056 : BitVec 32 := Scalar.addi c0_i32_983 c16_i32_984
  let c1_i32_985 : BitVec 32 := 1#32
  ⟨c0_i32_983, v1056, c1_i32_985⟩
@[reducible] def k0_t104_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off57 (k0_t103 : Fin k0_t103_loop.trips) (k0_t104 : Fin k0_t104_loop.trips) : Fin 2 → Nat :=
  let c0_i32_1215 : BitVec 32 := 0#32
  let c0_i32_983 : BitVec 32 := 0#32
  let c1_i32_985 : BitVec 32 := 1#32
  let arg27 : BitVec 32 := Scf.iv c0_i32_983 c1_i32_985 k0_t103
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t104
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t105_loop : Scf.Loop 32 :=
  let c0_i32_1005 : BitVec 32 := 0#32
  let c16_i32_1006 : BitVec 32 := 16#32
  let v1080 : BitVec 32 := Scalar.addi c0_i32_1005 c16_i32_1006
  let c1_i32_1007 : BitVec 32 := 1#32
  ⟨c0_i32_1005, v1080, c1_i32_1007⟩
@[reducible] def k0_t106_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off58 (k0_t105 : Fin k0_t105_loop.trips) (k0_t106 : Fin k0_t106_loop.trips) : Fin 2 → Nat :=
  let c0_i32_1215 : BitVec 32 := 0#32
  let c0_i32_1005 : BitVec 32 := 0#32
  let c1_i32_1007 : BitVec 32 := 1#32
  let arg27 : BitVec 32 := Scf.iv c0_i32_1005 c1_i32_1007 k0_t105
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t106
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t107_loop : Scf.Loop 32 :=
  let c0_i32_1023 : BitVec 32 := 0#32
  let c16_i32_1024 : BitVec 32 := 16#32
  let v1099 : BitVec 32 := Scalar.addi c0_i32_1023 c16_i32_1024
  let c1_i32_1025 : BitVec 32 := 1#32
  ⟨c0_i32_1023, v1099, c1_i32_1025⟩
@[reducible] def k0_t108_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off59 (k0_t107 : Fin k0_t107_loop.trips) (k0_t108 : Fin k0_t108_loop.trips) : Fin 2 → Nat :=
  let c0_i32_1215 : BitVec 32 := 0#32
  let c0_i32_1023 : BitVec 32 := 0#32
  let c1_i32_1025 : BitVec 32 := 1#32
  let arg27 : BitVec 32 := Scf.iv c0_i32_1023 c1_i32_1025 k0_t107
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t108
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t109_loop : Scf.Loop 32 :=
  let c0_i32_1041 : BitVec 32 := 0#32
  let c16_i32_1042 : BitVec 32 := 16#32
  let v1118 : BitVec 32 := Scalar.addi c0_i32_1041 c16_i32_1042
  let c1_i32_1043 : BitVec 32 := 1#32
  ⟨c0_i32_1041, v1118, c1_i32_1043⟩
@[reducible] def k0_t110_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off60 (k0_t109 : Fin k0_t109_loop.trips) (k0_t110 : Fin k0_t110_loop.trips) : Fin 2 → Nat :=
  let c0_i32_1215 : BitVec 32 := 0#32
  let c0_i32_1041 : BitVec 32 := 0#32
  let c1_i32_1043 : BitVec 32 := 1#32
  let arg27 : BitVec 32 := Scf.iv c0_i32_1041 c1_i32_1043 k0_t109
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t110
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t111_loop : Scf.Loop 32 :=
  let c0_i32_1059 : BitVec 32 := 0#32
  let c16_i32_1060 : BitVec 32 := 16#32
  let v1137 : BitVec 32 := Scalar.addi c0_i32_1059 c16_i32_1060
  let c1_i32_1061 : BitVec 32 := 1#32
  ⟨c0_i32_1059, v1137, c1_i32_1061⟩
@[reducible] def k0_t112_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off61 (k0_t111 : Fin k0_t111_loop.trips) (k0_t112 : Fin k0_t112_loop.trips) : Fin 2 → Nat :=
  let c0_i32_1215 : BitVec 32 := 0#32
  let c0_i32_1059 : BitVec 32 := 0#32
  let c1_i32_1061 : BitVec 32 := 1#32
  let arg27 : BitVec 32 := Scf.iv c0_i32_1059 c1_i32_1061 k0_t111
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t112
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t113_loop : Scf.Loop 32 :=
  let c0_i32_1081 : BitVec 32 := 0#32
  let c16_i32_1082 : BitVec 32 := 16#32
  let v1161 : BitVec 32 := Scalar.addi c0_i32_1081 c16_i32_1082
  let c1_i32_1083 : BitVec 32 := 1#32
  ⟨c0_i32_1081, v1161, c1_i32_1083⟩
@[reducible] def k0_t114_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off62 (k0_t113 : Fin k0_t113_loop.trips) (k0_t114 : Fin k0_t114_loop.trips) : Fin 2 → Nat :=
  let c0_i32_1215 : BitVec 32 := 0#32
  let c0_i32_1081 : BitVec 32 := 0#32
  let c1_i32_1083 : BitVec 32 := 1#32
  let arg27 : BitVec 32 := Scf.iv c0_i32_1081 c1_i32_1083 k0_t113
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t114
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t115_loop : Scf.Loop 32 :=
  let c0_i32_1099 : BitVec 32 := 0#32
  let c16_i32_1100 : BitVec 32 := 16#32
  let v1180 : BitVec 32 := Scalar.addi c0_i32_1099 c16_i32_1100
  let c1_i32_1101 : BitVec 32 := 1#32
  ⟨c0_i32_1099, v1180, c1_i32_1101⟩
@[reducible] def k0_t116_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off63 (k0_t115 : Fin k0_t115_loop.trips) (k0_t116 : Fin k0_t116_loop.trips) : Fin 2 → Nat :=
  let c0_i32_1215 : BitVec 32 := 0#32
  let c0_i32_1099 : BitVec 32 := 0#32
  let c1_i32_1101 : BitVec 32 := 1#32
  let arg27 : BitVec 32 := Scf.iv c0_i32_1099 c1_i32_1101 k0_t115
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t116
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t117_loop : Scf.Loop 32 :=
  let c0_i32_1117 : BitVec 32 := 0#32
  let c16_i32_1118 : BitVec 32 := 16#32
  let v1199 : BitVec 32 := Scalar.addi c0_i32_1117 c16_i32_1118
  let c1_i32_1119 : BitVec 32 := 1#32
  ⟨c0_i32_1117, v1199, c1_i32_1119⟩
@[reducible] def k0_t118_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off64 (k0_t117 : Fin k0_t117_loop.trips) (k0_t118 : Fin k0_t118_loop.trips) : Fin 2 → Nat :=
  let c0_i32_1215 : BitVec 32 := 0#32
  let c0_i32_1117 : BitVec 32 := 0#32
  let c1_i32_1119 : BitVec 32 := 1#32
  let arg27 : BitVec 32 := Scf.iv c0_i32_1117 c1_i32_1119 k0_t117
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t118
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t119_loop : Scf.Loop 32 :=
  let c0_i32_1135 : BitVec 32 := 0#32
  let c16_i32_1136 : BitVec 32 := 16#32
  let v1218 : BitVec 32 := Scalar.addi c0_i32_1135 c16_i32_1136
  let c1_i32_1137 : BitVec 32 := 1#32
  ⟨c0_i32_1135, v1218, c1_i32_1137⟩
@[reducible] def k0_t120_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off65 (k0_t119 : Fin k0_t119_loop.trips) (k0_t120 : Fin k0_t120_loop.trips) : Fin 2 → Nat :=
  let c0_i32_1215 : BitVec 32 := 0#32
  let c0_i32_1135 : BitVec 32 := 0#32
  let c1_i32_1137 : BitVec 32 := 1#32
  let arg27 : BitVec 32 := Scf.iv c0_i32_1135 c1_i32_1137 k0_t119
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t120
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t121_loop : Scf.Loop 32 :=
  let c0_i32_1155 : BitVec 32 := 0#32
  let c16_i32_1156 : BitVec 32 := 16#32
  let v1239 : BitVec 32 := Scalar.addi c0_i32_1155 c16_i32_1156
  let c1_i32_1157 : BitVec 32 := 1#32
  ⟨c0_i32_1155, v1239, c1_i32_1157⟩
@[reducible] def k0_t122_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off66 (k0_t121 : Fin k0_t121_loop.trips) (k0_t122 : Fin k0_t122_loop.trips) : Fin 2 → Nat :=
  let c0_i32_1215 : BitVec 32 := 0#32
  let c0_i32_1155 : BitVec 32 := 0#32
  let c1_i32_1157 : BitVec 32 := 1#32
  let arg27 : BitVec 32 := Scf.iv c0_i32_1155 c1_i32_1157 k0_t121
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t122
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t123_loop : Scf.Loop 32 :=
  let c0_i32_1166 : BitVec 32 := 0#32
  let c16_i32_1167 : BitVec 32 := 16#32
  let v1249 : BitVec 32 := Scalar.addi c0_i32_1166 c16_i32_1167
  let c1_i32_1168 : BitVec 32 := 1#32
  ⟨c0_i32_1166, v1249, c1_i32_1168⟩
@[reducible] def k0_t124_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off67 (k0_t123 : Fin k0_t123_loop.trips) (k0_t124 : Fin k0_t124_loop.trips) : Fin 2 → Nat :=
  let c0_i32_1215 : BitVec 32 := 0#32
  let c0_i32_1166 : BitVec 32 := 0#32
  let c1_i32_1168 : BitVec 32 := 1#32
  let arg27 : BitVec 32 := Scf.iv c0_i32_1166 c1_i32_1168 k0_t123
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t124
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t125_loop : Scf.Loop 32 :=
  let c0_i32_1177 : BitVec 32 := 0#32
  let c16_i32_1178 : BitVec 32 := 16#32
  let v1259 : BitVec 32 := Scalar.addi c0_i32_1177 c16_i32_1178
  let c1_i32_1179 : BitVec 32 := 1#32
  ⟨c0_i32_1177, v1259, c1_i32_1179⟩
@[reducible] def k0_t126_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off68 (k0_t125 : Fin k0_t125_loop.trips) (k0_t126 : Fin k0_t126_loop.trips) : Fin 2 → Nat :=
  let c0_i32_1215 : BitVec 32 := 0#32
  let c0_i32_1177 : BitVec 32 := 0#32
  let c1_i32_1179 : BitVec 32 := 1#32
  let arg27 : BitVec 32 := Scf.iv c0_i32_1177 c1_i32_1179 k0_t125
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t126
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
@[reducible] def k0_t127_loop : Scf.Loop 32 :=
  let c0_i32_1188 : BitVec 32 := 0#32
  let c16_i32_1189 : BitVec 32 := 16#32
  let v1269 : BitVec 32 := Scalar.addi c0_i32_1188 c16_i32_1189
  let c1_i32_1190 : BitVec 32 := 1#32
  ⟨c0_i32_1188, v1269, c1_i32_1190⟩
@[reducible] def k0_t128_loop : Scf.Loop 32 :=
  let c0_i32_1216 : BitVec 32 := 0#32
  let c48_i32_1217 : BitVec 32 := 48#32
  let v1301 : BitVec 32 := Scalar.addi c0_i32_1216 c48_i32_1217
  let c1_i32_1218 : BitVec 32 := 1#32
  ⟨c0_i32_1216, v1301, c1_i32_1218⟩
def k0_off69 (k0_t127 : Fin k0_t127_loop.trips) (k0_t128 : Fin k0_t128_loop.trips) : Fin 2 → Nat :=
  let c0_i32_1215 : BitVec 32 := 0#32
  let c0_i32_1188 : BitVec 32 := 0#32
  let c1_i32_1190 : BitVec 32 := 1#32
  let arg27 : BitVec 32 := Scf.iv c0_i32_1188 c1_i32_1190 k0_t127
  let c1_i32_1214 : BitVec 32 := 1#32
  let v1299 : BitVec 32 := Scalar.muli arg27 c1_i32_1214
  let v1300 : BitVec 32 := Scalar.addi c0_i32_1215 v1299
  let v1304 : Index := Scalar.indexCast v1300
  let c0_i32_1221 : BitVec 32 := 0#32
  let c0_i32_1216 : BitVec 32 := 0#32
  let c1_i32_1218 : BitVec 32 := 1#32
  let arg28 : BitVec 32 := Scf.iv c0_i32_1216 c1_i32_1218 k0_t128
  let c16_i32_1220 : BitVec 32 := 16#32
  let v1302 : BitVec 32 := Scalar.muli arg28 c16_i32_1220
  let v1303 : BitVec 32 := Scalar.addi c0_i32_1221 v1302
  let v1305 : Index := Scalar.indexCast v1303
  ![v1304.toNat, v1305.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x768 : Shape := ⟨3, ![4, 8192, 768]⟩
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x768 : Shape := ⟨3, ![1, 8192, 768]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x768, .f32⟩
  | .hbm, ⟨22, _⟩ => ⟨S8192x768, .i1⟩
  | .hbm, ⟨23, _⟩ => ⟨S_, .f32⟩
  | .hbm, ⟨24, _⟩ => ⟨S8192x768, .f32⟩
  | .hbm, ⟨25, _⟩ => ⟨S8192x768, .f32⟩
  | .hbm, ⟨26, _⟩ => ⟨S1x8192x768, .f32⟩
  | .hbm, ⟨27, _⟩ => ⟨S4x8192x768, .f32⟩
  | .hbm, ⟨28, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Steps.lean ====
module

public import proofs.«01_k».proof.KernelIdeal

@[expose] public section

set_option maxRecDepth 65536

noncomputable section

/-! The kernel body, told as sixty-four steps.

A tile goes through its 256 rows of the table in sixteen chunks of sixteen rows, and through each chunk once for each of
the four batch entries: step `k` is chunk `k / 4` of entry `k % 4`, and works in the row buffer `k % 6`. Below, each
transfer and each wait is named after what it moves, and `body_eq` says that the printed body is those steps in order. -/

namespace Cert.KernelIdeal.Pos

open Idealize.ShloMosaic Idealize.SL.Sem Cert.KernelIdeal Cert.KernelIdeal.Facts₀ Cert.KernelIdeal.Facts

variable {F : FTy → Type} [FloatOps F] [Facts]

/-- The program type of a tile at the grid coordinates `i`. -/
abbrev Tile (F : FTy → Type) (i : grid0.Coords) : Type _ :=
  Prog (TpuEff nD τ sig (Elt F) Λ₀ (.scVector ((i 0).castLE hcore0) ((i 1).castLE hsub0))) PUnit

/-! ## The operands, by number -/

/-- The six row buffers. -/
def xb : Fin 6 → Memref sig .scVector .vmem S16x768 .f32
  | 0 => Memref.whole cc0_scratch0 | 1 => Memref.whole cc0_scratch1 | 2 => Memref.whole cc0_scratch2
  | 3 => Memref.whole cc0_scratch3 | 4 => Memref.whole cc0_scratch4 | 5 => Memref.whole cc0_scratch5

/-- The two table buffers. -/
def tb : Fin 2 → Memref sig .scVector .vmem S16x768 .f32
  | 0 => Memref.whole cc0_scratch6 | 1 => Memref.whole cc0_scratch7

/-- The semaphore on which a row buffer's loads complete. -/
def xs : Fin 6 → DmaSem sig
  | 0 => cc0_scratch8.sem | 1 => cc0_scratch9.sem | 2 => cc0_scratch10.sem
  | 3 => cc0_scratch11.sem | 4 => cc0_scratch12.sem | 5 => cc0_scratch13.sem

/-- The semaphore on which a table buffer's loads complete. -/
def ts : Fin 2 → DmaSem sig
  | 0 => cc0_scratch14.sem | 1 => cc0_scratch15.sem

/-- The semaphore on which a row buffer's write-outs complete. -/
def os : Fin 6 → DmaSem sig
  | 0 => cc0_scratch16.sem | 1 => cc0_scratch17.sem | 2 => cc0_scratch18.sem
  | 3 => cc0_scratch19.sem | 4 => cc0_scratch20.sem | 5 => cc0_scratch21.sem

/-- The row buffers and the table buffers are whole arrays. -/
theorem xb_whole : ∀ g, (xb g).IsWhole
  | 0 => Memref.isWhole_whole _ | 1 => Memref.isWhole_whole _ | 2 => Memref.isWhole_whole _
  | 3 => Memref.isWhole_whole _ | 4 => Memref.isWhole_whole _ | 5 => Memref.isWhole_whole _

theorem tb_whole : ∀ g, (tb g).IsWhole
  | 0 => Memref.isWhole_whole _ | 1 => Memref.isWhole_whole _

/-- `x`, the table and the result as a tile names them. -/
abbrev xA : Memref sig .scVector .hbm S4x8192x768 .f32 := Memref.whole main_arg0_scv
abbrev tA : Memref sig .scVector .hbm S8192x768 .f32 := Memref.whole main_arg1_scv
abbrev oA : Memref sig .scVector .hbm S4x8192x768 .f32 := Memref.whole main_v0_scv

/-! ## The blocks an operand is cut in -/

/-- Where the rows of chunk `c` begin in batch entry `b`. -/
def rowOff (i : grid0.Coords) (b : Fin 4) (c : Fin 16) : Fin 3 → Nat :=
  match b with
  | 0 => k0_off2 i (BitVec.ofNat 32 (16 * c.val)) | 1 => k0_off3 i (BitVec.ofNat 32 (16 * c.val))
  | 2 => k0_off4 i (BitVec.ofNat 32 (16 * c.val)) | 3 => k0_off5 i (BitVec.ofNat 32 (16 * c.val))

/-- A block lies within the array. -/
theorem rowOff_inb (i : grid0.Coords) (b : Fin 4) (c : Fin 16) : ∀ a, rowOff i b c a + S1x16x768.size a ≤ S4x8192x768.size a :=
  match b with
  | 0 => k0_off2_inb i c | 1 => k0_off3_inb i c | 2 => k0_off4_inb i c | 3 => k0_off5_inb i c

/-- The sixteen rows of chunk `c` in batch entry `b` of a three-axis array. -/
abbrev rows (A : Memref sig .scVector .hbm S4x8192x768 .f32) (i : grid0.Coords) (b : Fin 4) (c : Fin 16) :
    Memref sig .scVector .hbm S16x768 .f32 :=
  (A.slice (Rect.unit (s := S4x8192x768) (rowOff i b c) S1x16x768.size (rowOff_inb i b c)) (fun _ => rfl)).squeeze
    S16x768 squeezes_S1x16x768_S16x768

/-- The sixteen rows of chunk `c` of the table. -/
abbrev trows (i : grid0.Coords) (c : Fin 16) : Memref sig .scVector .hbm S16x768 .f32 :=
  tA.slice (Rect.unit (s := S8192x768) (k0_off1 i (BitVec.ofNat 32 (16 * c.val))) S16x768.size (k0_off1_inb i c)) (fun _ => rfl)

/-- The chunk and the batch entry of step `k`, and the buffers it uses. -/
def cOf (k : ℕ) : Fin 16 := ⟨k / 4 % 16, Nat.mod_lt _ (by decide)⟩
def bOf (k : ℕ) : Fin 4 := ⟨k % 4, Nat.mod_lt _ (by decide)⟩
def gOf (k : ℕ) : Fin 6 := ⟨k % 6, Nat.mod_lt _ (by decide)⟩
def pOf (c : Fin 16) : Fin 2 := ⟨c.val % 2, Nat.mod_lt _ (by decide)⟩

/-! ## The moves -/

/-- Start the load of the table's chunk `c`. -/
def startT (i : grid0.Coords) (c : Fin 16) : Tile F i :=
  Prog.lift (.enqueueDma (trows i c) (.here (tb (pOf c))) (.dma (ts (pOf c))) (View.wordExact_bits rfl) (tb_whole (pOf c)).wordExact ⟨Or.inl rfl, trivial⟩)

/-- Wait for it. -/
def waitT (i : grid0.Coords) (c : Fin 16) : Tile F i :=
  Prog.lift (.waitDma2 (ts (pOf c)) (trows i c) (tb (pOf c)) (View.wordExact_bits rfl) (tb_whole (pOf c)).wordExact)

/-- Start the load of step `k`'s rows. -/
def startX (i : grid0.Coords) (k : ℕ) : Tile F i :=
  Prog.lift (.enqueueDma (rows xA i (bOf k) (cOf k)) (.here (xb (gOf k))) (.dma (xs (gOf k))) ((View.wordExact_bits rfl).reshape _ _) (xb_whole (gOf k)).wordExact ⟨Or.inl rfl, trivial⟩)

/-- Wait for it. -/
def waitX (i : grid0.Coords) (k : ℕ) : Tile F i :=
  Prog.lift (.waitDma2 (xs (gOf k)) (rows xA i (bOf k) (cOf k)) (xb (gOf k)) ((View.wordExact_bits rfl).reshape _ _) (xb_whole (gOf k)).wordExact)

/-- Start the write-out of step `k`'s rows. -/
def startO (i : grid0.Coords) (k : ℕ) : Tile F i :=
  Prog.lift (.enqueueDma (xb (gOf k)) (.here (rows oA i (bOf k) (cOf k))) (.dma (os (gOf k))) (xb_whole (gOf k)).wordExact ((View.wordExact_bits rfl).reshape _ _) ⟨Or.inl rfl, trivial⟩)

/-- Wait for it. -/
def waitO (i : grid0.Coords) (k : ℕ) : Tile F i :=
  Prog.lift (.waitDma2 (os (gOf k)) (xb (gOf k)) (rows oA i (bOf k) (cOf k)) (xb_whole (gOf k)).wordExact ((View.wordExact_bits rfl).reshape _ _))

/-- One trip of the inner loop: sixteen lanes of a row of `t` are added into the same lanes of `x`. -/
def addLanes (i : grid0.Coords) (x t : Memref sig .scVector .vmem S16x768 .f32) (r : Fin k0_t1_loop.trips) (j : Fin k0_t2_loop.trips) :
    Tile F i := do
  let u : Vec F S1x16 .f32 ← Prog.lift (.load x (Rect.unit (s := S16x768) (k0_off6 r j) S1x16.size (k0_off6_inb r j)).toLoadRect (View.loadsAt_vmem h_S1x16))
  let v : Vec F S1x16 .f32 ← Prog.lift (.load t (Rect.unit (s := S16x768) (k0_off6 r j) S1x16.size (k0_off6_inb r j)).toLoadRect (View.loadsAt_vmem h_S1x16))
  let _w : Vec F S1x16 .f32 ← Prog.lift (.load x (Rect.unit (s := S16x768) (k0_off6 r j) S1x16.size (k0_off6_inb r j)).toLoadRect (View.loadsAt_vmem h_S1x16))
  Prog.lift (.store x (Rect.unit (s := S16x768) (k0_off6 r j) S1x16.size (k0_off6_inb r j))
    (shapeCast S1x16 (addf (shapeCast S16 u shapeCasts_S1x16_S16 : FVec F S16 .f32) (shapeCast S16 v shapeCasts_S1x16_S16 : FVec F S16 .f32) : FVec F S16 .f32) shapeCasts_S16_S1x16 : FVec F S1x16 .f32)
    Finset.univ (View.stores_vmem_bits_univ h_S1x16 rfl) (.inl rfl))

/-- The add: row by row, sixteen lanes at a time. -/
def addRows (i : grid0.Coords) (x t : Memref sig .scVector .vmem S16x768 .f32) : Tile F i :=
  Scf.Loop.for k0_t1_loop k0_t1_ok ⟨⟩ fun r _ => do
    Scf.Loop.for k0_t2_loop k0_t2_ok ⟨⟩ fun j _ => do
      addLanes i x t r j
      pure ⟨⟩
    pure ⟨⟩

/-! ## The steps -/

/-- At a chunk's first step: wait for the chunk of the table, and start the next one's load. -/
def turnT (i : grid0.Coords) (k : ℕ) : Tile F i :=
  if k % 4 = 0 then do
    waitT i (cOf k)
    if k + 4 < 64 then startT i (cOf (k + 4)) else pure ⟨⟩
  else pure ⟨⟩

/-- Start the load three steps ahead, once its buffer has been written out. -/
def ahead (i : grid0.Coords) (k : ℕ) : Tile F i :=
  if k + 3 < 64 then do
    if 3 ≤ k then waitO i (k - 3) else pure ⟨⟩
    startX i (k + 3)
  else pure ⟨⟩

/-- Step `k`. -/
def step (i : grid0.Coords) (k : ℕ) : Tile F i := do
  turnT i k
  waitX i k
  ahead i k
  addRows i (xb (gOf k)) (tb (pOf (cOf k)))
  startO i k

/-- `n` steps from step `k` on. -/
def steps (i : grid0.Coords) (k : ℕ) : ℕ → Tile F i
  | 0 => pure ⟨⟩
  | n + 1 => do step i k; steps i (k + 1) n

/-- Wait for the write-outs of `n` steps from step `k` on. -/
def drain (i : grid0.Coords) (k : ℕ) : ℕ → Tile F i
  | 0 => pure ⟨⟩
  | n + 1 => do waitO i k; drain i (k + 1) n

/-- The whole body. -/
def body (i : grid0.Coords) : Tile F i := do
  startT i (cOf 0)
  startX i 0
  startX i 1
  startX i 2
  steps i 0 64
  drain i 58 6

end Cert.KernelIdeal.Pos
-- ==== Proof.Moves.lean ====
module

public import proofs.«01_k».proof.Proof.Steps
public import Idealize.ShloMosaic.Lib.SparseCore.Quiescent
public import Idealize.ShloMosaic.Lib.Pipeline.Kit
public import Idealize.ShloMosaic.Lib.Tactic

@[expose] public section

set_option maxRecDepth 65536

noncomputable section

/-! What a tile's transfers and waits do to the sixteen-row blocks they move. -/

namespace Cert.KernelIdeal.Pos

open Idealize.ShloMosaic Cert.KernelIdeal Cert.KernelIdeal.Facts₀ Cert.KernelIdeal.Facts
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-- The launch's handshakes beside the transfers' counters. -/
abbrev UU : Type := URounds (GSem nD τ sig) ℕ × Counters

local notation "𝕄" => MT nD τ sig (HIx 1) (Elt F) ℕ UU ℕ

/-- Where the transfers' counters are kept. -/
abbrev EC : UEmb Counters (MT nD τ sig (HIx 1) (Elt F) ℕ UU ℕ) := countersEmb

/-- The tile at the grid coordinates `i` of device `d`. -/
abbrev tile (d : Dev nD) (i : grid0.Coords) : Thread nD τ := SparseCore.V d ((i 0).castLE hcore0) ((i 1).castLE hsub0)

variable (d : Dev nD) (i : grid0.Coords)

/-- A block of sixteen rows. -/
abbrev Block (F : FTy → Type) : Type := S16x768.Idx → Elt F .f32

/-- The tile owns the block and it holds `X`. -/
def holds {sp : Space} (b : Memref sig .scVector sp S16x768 .f32) (X : Block F) : sProp 𝕄 :=
  iprop(∃ f : Buf (Elt F) (View.loc (tile d i) b.view), ⌜b.view.read (Elt F) f = X⌝ ∗ (View.loc (tile d i) b.view ↦[b.view.set]{fullShare} f))

/-- The tile owns the block, whatever it holds. -/
def owned {sp : Space} (b : Memref sig .scVector sp S16x768 .f32) : sProp 𝕄 := iprop(∃ X, holds (F := F) d i b X)

/-- The semaphore is at zero. -/
def idle (s : DmaSem sig) : sProp 𝕄 := iprop(semVal (tile d i, .dma s) 0)

/-- A move in flight on the semaphore: the wait will find `X` in `dst`, and in `src` still. -/
def moving {sp sp' : Space} (s : DmaSem sig) (src : Memref sig .scVector sp S16x768 .f32) (dst : Memref sig .scVector sp' S16x768 .f32)
    (X : Block F) : sProp 𝕄 :=
  iprop(Transfers.Flight EC (tile d i) (.dma s) none dst.view.dmaCredit iprop(holds d i dst X ∗ holds d i src X))

/-- What the tile owes, and that it may wait on its own semaphores: the waits it has made since `W` are all of them its own. -/
def dues (O : CellTallies nD τ sig (HIx 1)) (W : Waits sig (HIx 1)) : sProp 𝕄 :=
  iprop(Transfers.MayWaits (tile d i) (none : HIx 1) O ∗ ∃ W', ⌜∀ p ∈ W', p ∈ W ∨ p.2 = none⌝ ∗ owes (tile d i) O W')

/-- The statement that a piece of a tile's program takes `P` to `Q`. -/
def Does (P : sProp 𝕄) (p : Tile F i) (Q : sProp 𝕄) : Prop :=
  P ⊢ wp frame (wpE (defs₀ (F := F)) Variants.none (tile d i) none) Set.univ p fun _ => Q

variable {d i}

/-- One piece after another. -/
theorem Does.seq {P Q R : sProp 𝕄} {p : Tile F i} {q : PUnit → Tile F i} (hp : Does d i P p Q) (hq : Does d i Q (q ⟨⟩) R) :
    Does d i P (p >>= q) R := by
  unfold Does at *; rw [wp_bind]; exact hp.trans (wp_mono frame _ _ fun _ => hq)

/-- The empty piece. -/
theorem Does.skip {P : sProp 𝕄} : Does d i P (pure ⟨⟩) P := by
  unfold Does; rw [wp_pure]; iintro H; imodintro; iexact H

/-- A piece leaves alone what it does not speak of. -/
theorem Does.framed {P Q R : sProp 𝕄} {p : Tile F i} (h : Does d i P p Q) : Does d i iprop(P ∗ R) p iprop(Q ∗ R) :=
  (sep_mono h .rfl).trans (wp_frame_r frame _ _)

/-- A piece may be given more and asked for less. -/
theorem Does.conv {P P' Q Q' : sProp 𝕄} {p : Tile F i} (hP : P' ⊢ P) (h : Does d i P p Q) (hQ : Q ⊢ Q') : Does d i P' p Q' :=
  hP.trans (h.trans (wp_mono frame _ _ fun _ => hQ))

section Dma

variable {sp sp' : Space} {s : DmaSem sig} {src : Memref sig .scVector sp S16x768 .f32} {dst : Memref sig .scVector sp' S16x768 .f32}
  {X : Block F}

/-- A transfer starts. -/
theorem does_start {hsrc : src.view.WordExact} {hdst : dst.view.WordExact} {hsem : DmaTarget.Typed (nD := nD) sp (.dma s) (.here (p := (tile d i).2) dst)} :
    Does d i iprop(holds d i src X ∗ owned d i dst ∗ idle d i s)
      (Prog.lift (.enqueueDma src (.here dst) (.dma s) hsrc hdst hsem)) (moving d i s src dst X) := by
  unfold Does owned idle holds moving
  iintro ⟨⟨%f, %hf, Hs⟩, ⟨%Y, %g, -, Hd⟩, Hv⟩
  iapply (Transfers.wp_dmaLocal EC Variants.none (tile d i) none (none : HIx 1) dst.view.dmaCredit rfl
    (dst.view.dmaCredit_pos (by decide)) (Finset.Subset.refl _)) $$ [Hs Hd Hv]
  · isplitl [Hs]; · iexact Hs
    isplitl [Hd] <;> iassumption
  iintro Hf
  rw [wp_ret]
  imodintro
  iapply (Transfers.Flight_mono (EC := EC) ?_) $$ Hf
  unfold holds
  iintro ⟨Hd, Hs⟩
  isplitl [Hd]
  · iexists _; isplitr; swap; iexact Hd
    ipureintro; rw [View.read_write_univ]; exact hf
  · iexists _; isplitr; swap; iexact Hs
    ipureintro; exact hf

/-- A wait ends it. -/
theorem does_wait {hsrc : src.view.WordExact} {hdst : dst.view.WordExact} {O : CellTallies nD τ sig (HIx 1)} {W : Waits sig (HIx 1)} :
    Does d i iprop(moving d i s src dst X ∗ dues (F := F) d i O W)
      (Prog.lift (.waitDma2 s src dst hsrc hdst)) iprop(holds d i dst X ∗ holds d i src X ∗ idle d i s ∗ dues d i O W) := by
  unfold Does idle moving dues
  iintro ⟨Hf, #Hmw, %W', %hW', HO⟩
  ihave Hm := (Transfers.MayWaits.elim (.dma s)) $$ Hmw
  iapply (Transfers.wp_waitLocalO EC Variants.none (tile d i) none (none : HIx 1) rfl) $$ [Hf HO Hm]
  · isplitl [Hf]; · iexact Hf
    isplitl [HO] <;> iassumption
  iintro ⟨⟨Hd, Hs⟩, Hv, HO⟩
  rw [wp_ret]
  imodintro
  isplitl [Hd]; · iexact Hd
  isplitl [Hs]; · iexact Hs
  isplitl [Hv]; · iexact Hv
  isplitr; · iexact Hmw
  iexists _; isplitr; swap; iexact HO
  ipureintro; intro p hp
  rcases Finset.mem_insert.mp hp with hp | hp
  · exact .inr (hp ▸ rfl)
  · exact hW' p hp

end Dma

end Cert.KernelIdeal.Pos
-- ==== Proof.AddRows.lean ====
module

public import proofs.«01_k».proof.Proof.Moves
public import proofs.«01_k».proof.Proof.Gen.KernelIdeal

@[expose] public section

set_option maxRecDepth 65536

noncomputable section

/-! The add: a row buffer ends with each of its elements added to by the table buffer's. -/

namespace Cert.KernelIdeal.Pos

open Idealize.ShloMosaic Cert.KernelIdeal Cert.KernelIdeal.Facts₀ Cert.KernelIdeal.Facts
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 1) (Elt F) ℕ UU ℕ

/-- Two blocks added, element by element. -/
def plus (X T : Block F) : Block F := fun y => (FloatOps.addf (X y : F .f32) (T y : F .f32) : F .f32)

/-- The block in which the elements of `D` have been added to, and the others not. -/
def partly (D : S16x768.Idx → Prop) [DecidablePred D] (X T : Block F) : Block F := fun y => if D y then plus X T y else X y

/-- The outer loop has one trip for each of the sixteen rows, the inner one a trip for each sixteen of the 768 lanes. -/
theorem rowTrips : k0_t1_loop.trips = 16 := by decide
theorem laneTrips : k0_t2_loop.trips = 48 := by decide

variable {d : Dev nD} {i : grid0.Coords}

/-- The lanes a trip works on. -/
abbrev lanes (r : Fin k0_t1_loop.trips) (j : Fin k0_t2_loop.trips) : Rect S16x768 :=
  Rect.unit (s := S16x768) (k0_off6 r j) S1x16.size (k0_off6_inb r j)

/-- An element is among a trip's lanes when it lies in its row and in its sixteen columns. -/
theorem mem_lanes (r : Fin k0_t1_loop.trips) (j : Fin k0_t2_loop.trips) (y : S16x768.Idx) :
    y ∈ (lanes r j).set ↔ (y 0).val = r.val ∧ 16 * j.val ≤ (y 1).val ∧ (y 1).val < 16 * (j.val + 1) := by
  rw [LoadRect.mem_set]
  refine (Fin.forall_fin_two (p := fun a => ∃ l < S1x16.size a, (y a : ℕ) = k0_off6 r j a + 1 * l)).trans ?_
  rw [Gen.k0_off6_eq]
  show (∃ l < 1, (y 0 : ℕ) = r.val + 1 * l) ∧ (∃ l < 16, (y 1 : ℕ) = 16 * j.val + 1 * l) ↔ _
  constructor
  · rintro ⟨⟨l, hl, h⟩, l', hl', h'⟩; omega
  · rintro ⟨h, h', h''⟩; exact ⟨⟨0, by omega, by omega⟩, (y 1).val - 16 * j.val, by omega, by omega⟩

/-- Done before trip `j` of row `r`: the rows above, and the row's lanes to the left. -/
abbrev done (r j : ℕ) (y : S16x768.Idx) : Prop := (y 0).val < r ∨ ((y 0).val = r ∧ (y 1).val < 16 * j)

/-- Adding two rows of sixteen lanes flat is adding them as they lie. -/
theorem flat_add (u v : Vec F S1x16 .f32) :
    (shapeCast S1x16 (addf (shapeCast S16 u shapeCasts_S1x16_S16 : FVec F S16 .f32) (shapeCast S16 v shapeCasts_S1x16_S16 : FVec F S16 .f32) : FVec F S16 .f32) shapeCasts_S16_S1x16 : FVec F S1x16 .f32)
      = fun z => (FloatOps.addf (u z : F .f32) (v z : F .f32) : F .f32) := by
  funext z
  simp only [shapeCast, addf, Shape.reshapeEquiv_reshapeEquiv, Shape.reshapeEquiv_self]

/-- What the trip stores turns the block done before it into the block done after it. -/
theorem store_lanes {sp : Space} (v : View sig .scVector sp S16x768 .f32) (X T : Block F) (r : Fin k0_t1_loop.trips) (j : Fin k0_t2_loop.trips)
    (f : v.ty.Contents (Elt F)) (w : Vec F S1x16 .f32)
    (hf : v.read (Elt F) f = partly (done r.val j.val) X T)
    (hw : ∀ z : S1x16.Idx, w z = (FloatOps.addf (partly (done r.val j.val) X T ((lanes r j).emb z) : F .f32) (T ((lanes r j).emb z) : F .f32) : F .f32)) :
    v.read (Elt F) ((v.slice (lanes r j)).write (Elt F) f w Finset.univ) = partly (done r.val (j.val + 1)) X T := by
  funext y
  by_cases hy : y ∈ (lanes r j).set
  · have hm := (mem_lanes r j y).mp hy
    obtain ⟨z, -, rfl⟩ := Finset.mem_map.mp ((Rect.map_emb_univ (lanes r j)).symm ▸ hy)
    rw [View.read_slice_write_emb (lanes r j) f w (Finset.mem_univ z), hw z]
    have h0 : ¬ done r.val j.val ((lanes r j).emb z) := by simp only [done]; omega
    have h1 : done r.val (j.val + 1) ((lanes r j).emb z) := by simp only [done]; omega
    simp only [partly, if_neg h0, if_pos h1, plus]
  · rw [View.read_slice_write_of_not_mem (lanes r j) f w Finset.univ (by rwa [Rect.map_emb_univ]), hf]
    have hm := mt (mem_lanes r j y).mpr hy
    have : done r.val (j.val + 1) y ↔ done r.val j.val y := by simp only [done]; omega
    simp only [partly, this]

/-- A trip of the inner loop adds the table buffer's lanes into the row buffer's and changes nothing else. -/
theorem does_lanes {x t : Memref sig .scVector .vmem S16x768 .f32} {X T : Block F} (r : Fin k0_t1_loop.trips) (j : Fin k0_t2_loop.trips) :
    Does d i iprop(holds d i x (partly (done r.val j.val) X T) ∗ holds d i t T) (addLanes i x t r j)
      iprop(holds d i x (partly (done r.val (j.val + 1)) X T) ∗ holds d i t T) := by
  unfold Does addLanes holds
  iintro ⟨⟨%f, %hf, Hx⟩, %g, %hg, Ht⟩
  rw [wp_bind]
  iapply (wp_load Variants.none (tile d i) none Set.univ (m := x) (View.setOn_subset_set _ _)) $$ Hx
  iintro Hx
  rw [wp_ret]; imodintro
  rw [wp_bind]
  iapply (wp_load Variants.none (tile d i) none Set.univ (m := t) (View.setOn_subset_set _ _)) $$ Ht
  iintro Ht
  rw [wp_ret]; imodintro
  rw [wp_bind]
  iapply (wp_load Variants.none (tile d i) none Set.univ (m := x) (View.setOn_subset_set _ _)) $$ Hx
  iintro Hx
  rw [wp_ret]; imodintro
  iapply (wp_store Variants.none (tile d i) none Set.univ (m := x) (r := lanes r j) (S := x.view.set) (View.set_slice_subset _ _)) $$ Hx
  iintro Hx
  rw [wp_ret]; imodintro
  isplitl [Hx]
  · iexists _; isplitr; swap; iexact Hx
    ipureintro
    refine store_lanes x.view X T r j f _ hf fun z => ?_
    rw [flat_add]
    rw [← hf, ← hg]; rfl
  · iexists g; isplitr; · ipureintro; exact hg
    iexact Ht

/-- A loop does what its trips do, one after the other. -/
theorem does_for {lp : Scf.Loop 32} {hok : lp.OK} {p : Fin lp.trips → Tile F i} {n : ℕ} (hn : lp.trips = n) (I : ℕ → sProp 𝕄)
    (h : ∀ r : Fin lp.trips, Does d i (I r.val) (p r) (I (r.val + 1))) :
    Does d i (I 0) (Scf.Loop.for lp hok ⟨⟩ fun r _ => p r) (I n) := by
  subst hn
  unfold Does
  iintro HI
  iapply (Scf.wp_for frame (wpE (defs₀ (F := F)) Variants.none (tile d i) none) Set.univ lp.lb lp.ub lp.st hok ⟨⟩ (fun r _ => p r)
    (fun k _ => I k) (fun r _ => h r))
  isplitl [HI]; · iexact HI
  iintro %_ HI; iexact HI

/-- Two ways of saying which elements are done give the same block. -/
theorem partly_congr {D D' : S16x768.Idx → Prop} [DecidablePred D] [DecidablePred D'] (h : ∀ y, D y ↔ D' y) (X T : Block F) :
    partly D X T = partly D' X T := by
  funext y; simp only [partly, h]

/-- Each element of the table buffer is added into the row buffer's. -/
theorem does_add {x t : Memref sig .scVector .vmem S16x768 .f32} {X T : Block F} :
    Does d i iprop(holds d i x X ∗ holds d i t T) (addRows i x t) iprop(holds d i x (plus X T) ∗ holds d i t T) := by
  have h := does_for (d := d) (i := i) (hok := k0_t1_ok) rowTrips (fun r => iprop(holds d i x (partly (done r 0) X T) ∗ holds d i t T))
    (p := fun r => do
      Scf.Loop.for k0_t2_loop k0_t2_ok ⟨⟩ fun j _ => do
        addLanes i x t r j
        pure ⟨⟩
      pure ⟨⟩) (fun r => by
        refine Does.seq (does_for (hok := k0_t2_ok) laneTrips (fun j => iprop(holds d i x (partly (done r.val j) X T) ∗ holds d i t T))
          fun j => (does_lanes r j).seq Does.skip) ?_
        rw [partly_congr (D' := done (r.val + 1) 0) (fun y => by have : (y 1).val < 768 := (y 1).isLt; simp only [done]; omega)]
        exact Does.skip)
  rw [show partly (done 0 0) X T = X from funext fun y => if_neg (by simp only [done]; omega),
    show partly (done 16 0) X T = plus X T from funext fun y => if_pos (by have : (y 0).val < 16 := (y 0).isLt; simp only [done]; omega)] at h
  exact h

end Cert.KernelIdeal.Pos
-- ==== Proof.Schedule.lean ====
module

public import proofs.«01_k».proof.Proof.AddRows

@[expose] public section

set_option maxRecDepth 65536

noncomputable section

/-! The schedule: which rows are on their way where when a step begins.

When step `k` begins, the loads of steps `k`, `k + 1`, `k + 2` are on their way into three of the six row buffers; in
the other three, the results of steps `k - 3`, `k - 2`, `k - 1` are on their way out. The chunk of the table the step
reads is in one table buffer, or on its way there if the step is the chunk's first; the next chunk is on its way into
the other. -/

namespace Cert.KernelIdeal.Pos

open Idealize.ShloMosaic Cert.KernelIdeal Cert.KernelIdeal.Facts₀ Cert.KernelIdeal.Facts
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 1) (Elt F) ℕ UU ℕ

variable (d : Dev nD) (i : grid0.Coords)

/-! ## Using a piece's statement inside a longer program -/

section Use

variable {d i}

/-- A piece at the head of a program. -/
theorem Does.use {P Q : sProp 𝕄} {p : Tile F i} {R : PUnit → sProp 𝕄} {q : PUnit → Tile F i} (h : Does d i P p Q) :
    P ⊢ iprop((Q -∗ wp frame (wpE (defs₀ (F := F)) Variants.none (tile d i) none) Set.univ (q ⟨⟩) R)
      -∗ wp frame (wpE (defs₀ (F := F)) Variants.none (tile d i) none) Set.univ (p >>= q) R) := by
  rw [wp_bind]
  refine BIClass.wand_intro (h.framed.trans (wp_mono frame _ _ fun _ => ?_))
  iintro ⟨HQ, HK⟩; iapply HK; iexact HQ

/-- A piece at the end of a program. -/
theorem Does.last {P Q : sProp 𝕄} {p : Tile F i} {R : PUnit → sProp 𝕄} (h : Does d i P p Q) :
    P ⊢ iprop((Q -∗ R ⟨⟩) -∗ wp frame (wpE (defs₀ (F := F)) Variants.none (tile d i) none) Set.univ p R) := by
  refine BIClass.wand_intro (h.framed.trans (wp_mono frame _ _ fun _ => ?_))
  iintro ⟨HQ, HK⟩; iapply HK; iexact HQ

end Use

/-! ## Intervals of blocks -/

/-- What `Φ` says of each number from `a` on and below `b`. -/
def each (a b : ℕ) (Φ : ℕ → sProp 𝕄) : sProp 𝕄 := bigSep (Finset.Ico a b) Φ

/-- The first number apart. -/
theorem each_first {a b : ℕ} (h : a < b) (Φ : ℕ → sProp 𝕄) : each a b Φ = iprop(Φ a ∗ each (a + 1) b Φ) := by
  unfold each
  rw [show Finset.Ico a b = insert a (Finset.Ico (a + 1) b) by ext x; simp only [Finset.mem_Ico, Finset.mem_insert]; omega,
    SparseCore.bigSep_insert' (by simp)]

/-- The last number apart. -/
theorem each_last {a b : ℕ} (h : a ≤ b) (Φ : ℕ → sProp 𝕄) : each a (b + 1) Φ = iprop(Φ b ∗ each a b Φ) := by
  unfold each
  rw [show Finset.Ico a (b + 1) = insert b (Finset.Ico a b) by ext x; simp only [Finset.mem_Ico, Finset.mem_insert]; omega,
    SparseCore.bigSep_insert' (by simp)]

/-- Of no number nothing is said. -/
theorem each_none {a b : ℕ} (h : b ≤ a) (Φ : ℕ → sProp 𝕄) : each a b Φ = iprop(emp) := by
  unfold each; rw [Finset.Ico_eq_empty (by omega), bigSep_empty]; rfl

/-! ## The blocks and the buffers, by step and by chunk -/

/-- Chunk number `c`. -/
def cN (c : ℕ) : Fin 16 := ⟨c % 16, Nat.mod_lt _ (by decide)⟩

/-- Step `k`'s rows of `x` and of the result, and chunk `c` of the table. -/
abbrev xrow (k : ℕ) := rows xA i (bOf k) (cOf k)
abbrev orow (k : ℕ) := rows oA i (bOf k) (cOf k)
abbrev trow (c : ℕ) := trows i (cN c)

/-- Step `k` is of chunk `k / 4`; six steps on the row buffer is the same, and two chunks on the table buffer. -/
theorem cOf_eq (k : ℕ) : cOf k = cN (k / 4) := rfl
theorem gOf_add (k : ℕ) : gOf (k + 6) = gOf k := Fin.ext (by simp [gOf])
theorem pOf_cN (c : ℕ) : pOf (cN c) = ⟨c % 2, Nat.mod_lt _ (by decide)⟩ := Fin.ext (by simp only [pOf, cN]; omega)
theorem pOf_add (c : ℕ) : pOf (cN (c + 2)) = pOf (cN c) := by rw [pOf_cN, pOf_cN]; exact Fin.ext (by simp)

variable (X T : ℕ → Block F)

/-- What step `k` writes out. -/
def sumOf (k : ℕ) : Block F := plus (X k) (T (k / 4))

/-- Step `k`'s rows are on their way into its buffer. -/
def loaded (k : ℕ) : sProp 𝕄 := iprop(moving d i (xs (gOf k)) (xrow i k) (xb (gOf k)) (X k) ∗ idle d i (os (gOf k)))

/-- Step `k`'s result is on its way out of its buffer. -/
def gone (k : ℕ) : sProp 𝕄 := iprop(moving d i (os (gOf k)) (xb (gOf k)) (orow i k) (sumOf X T k) ∗ idle d i (xs (gOf k)))

/-- A row buffer nothing moves into or out of. -/
def free (g : Fin 6) : sProp 𝕄 := iprop(owned (F := F) d i (xb g) ∗ idle d i (xs g) ∗ idle d i (os g))

/-- Step `k`'s buffer while its load is not begun: six steps earlier it was written out from. -/
def spare (k : ℕ) : sProp 𝕄 := if 6 ≤ k then gone d i X T (k - 6) else free d i (gOf k)

/-- Step `k`'s buffer once its load is begun, if there is such a step. -/
def ready (k : ℕ) : sProp 𝕄 := if k < 64 then loaded d i X k else spare d i X T k

/-- A table buffer nothing moves into. -/
def freeT (c : ℕ) : sProp 𝕄 := iprop(owned (F := F) d i (tb (pOf (cN c))) ∗ idle d i (ts (pOf (cN c))))

/-- The table's chunk `c` is on its way into its buffer, if there is such a chunk. -/
def readyT (c : ℕ) : sProp 𝕄 :=
  if c < 16 then moving d i (ts (pOf (cN c))) (trow i c) (tb (pOf (cN c))) (T c) else freeT d i c

/-- The table's side while step `k` adds. -/
def reading (k : ℕ) : sProp 𝕄 :=
  iprop(holds d i (tb (pOf (cOf k))) (T (k / 4)) ∗ idle d i (ts (pOf (cOf k))) ∗ readyT d i T (k / 4 + 1)
    ∗ each 0 (k / 4 + 1) (fun c => holds d i (trow i c) (T c)) ∗ each (k / 4 + 2) 16 (fun c => holds d i (trow i c) (T c)))

/-- The table's side when step `k` begins. -/
def table (k : ℕ) : sProp 𝕄 :=
  if k % 4 = 0 then
    iprop(readyT d i T (k / 4) ∗ freeT d i (k / 4 + 1)
      ∗ each 0 (k / 4) (fun c => holds d i (trow i c) (T c)) ∗ each (k / 4 + 1) 16 (fun c => holds d i (trow i c) (T c)))
  else reading d i T k

variable (O : CellTallies nD τ sig (HIx 1)) (W : Waits sig (HIx 1))

/-- When step `k` begins. -/
def at_ (k : ℕ) : sProp 𝕄 :=
  iprop(ready d i X T k ∗ ready d i X T (k + 1) ∗ ready d i X T (k + 2) ∗ spare d i X T (k + 3) ∗ spare d i X T (k + 4) ∗ spare d i X T (k + 5)
    ∗ table d i T k
    ∗ each 0 k (fun j => holds d i (xrow i j) (X j)) ∗ each (k + 3) 64 (fun j => holds d i (xrow i j) (X j))
    ∗ each 0 (min k 61 - 3) (fun j => holds d i (orow i j) (sumOf X T j)) ∗ each k 64 (fun j => owned (F := F) d i (orow i j))
    ∗ dues (F := F) d i O W)

variable {d i X T O W}

/-! ## The moves in the schedule -/

/-- Starting a step's load into a free buffer. -/
theorem does_startX {k : ℕ} :
    Does d i iprop(free (F := F) d i (gOf k) ∗ holds d i (xrow i k) (X k)) (startX i k) (loaded d i X k) := by
  unfold free loaded
  refine Does.conv ?_ ((does_start (d := d) (i := i)).framed (R := idle d i (os (gOf k)))) .rfl
  iintro ⟨⟨Hb, Hx, Ho⟩, Hs⟩
  isplitr [Ho]; swap; · iexact Ho
  isplitl [Hs]; · iexact Hs
  isplitl [Hb] <;> iassumption

/-- Waiting for a step's write-out frees its buffer, and its rows of the result hold the sums. -/
theorem does_waitO {k : ℕ} :
    Does d i iprop(gone d i X T k ∗ dues (F := F) d i O W) (waitO i k)
      iprop(free (F := F) d i (gOf k) ∗ holds d i (orow i k) (sumOf X T k) ∗ dues d i O W) := by
  unfold free gone
  refine Does.conv ?_ ((does_wait (d := d) (i := i) (O := O) (W := W) (X := sumOf X T k)).framed (R := idle d i (xs (gOf k)))) ?_
  · iintro ⟨⟨Hf, Hx⟩, HO⟩
    isplitr [Hx]; swap; · iexact Hx
    isplitl [Hf] <;> iassumption
  · iintro ⟨⟨Ho, Hb, Hs, HO⟩, Hx⟩
    isplitl [Hb Hs Hx]
    · isplitl [Hb]; · unfold owned; iexists _; iexact Hb
      isplitl [Hx] <;> iassumption
    isplitl [Ho] <;> iassumption

/-- The load three steps ahead is begun, its buffer's last write-out having been waited for. -/
theorem does_ahead {k : ℕ} :
    Does d i iprop(spare d i X T (k + 3) ∗ each (k + 3) 64 (fun j => holds d i (xrow i j) (X j))
        ∗ each 0 (min k 61 - 3) (fun j => holds d i (orow i j) (sumOf X T j)) ∗ dues (F := F) d i O W)
      (ahead i k)
      iprop(ready d i X T (k + 3) ∗ each (k + 1 + 3) 64 (fun j => holds d i (xrow i j) (X j))
        ∗ each 0 (min (k + 1) 61 - 3) (fun j => holds d i (orow i j) (sumOf X T j)) ∗ dues d i O W) := by
  unfold ahead ready
  by_cases h : k + 3 < 64
  · rw [if_pos h, if_pos h, each_first h]
    by_cases h3 : 3 ≤ k
    · rw [if_pos h3, spare, if_pos (show 6 ≤ k + 3 by omega), show k + 3 - 6 = k - 3 by omega,
        show min (k + 1) 61 - 3 = (k - 3) + 1 by omega, each_last (Nat.zero_le _), show min k 61 - 3 = k - 3 by omega]
      unfold Does
      iintro ⟨Hsp, ⟨Hx, Hxs⟩, Hos, HO⟩
      iapply (Does.use (does_waitO (d := d) (i := i) (X := X) (T := T) (O := O) (W := W) (k := k - 3))) $$ [Hsp HO]; · isplitl [Hsp] <;> iassumption
      iintro ⟨Hfree, Ho, HO⟩
      iapply (Does.last (does_startX (d := d) (i := i) (X := X) (k := k + 3))) $$ [Hfree Hx]
      · isplitl [Hfree]
        · iapply (Entails.of_eq (congrArg (free d i) (show gOf (k - 3) = gOf (k + 3) by rw [← gOf_add (k - 3)]; congr 1; omega))); iexact Hfree
        · iexact Hx
      iintro Hl
      isplitl [Hl]; · iexact Hl
      isplitl [Hxs]; · iexact Hxs
      isplitl [Ho Hos]; · isplitl [Ho] <;> iassumption
      iexact HO
    · rw [if_neg h3, spare, if_neg (show ¬ 6 ≤ k + 3 by omega), show min (k + 1) 61 - 3 = 0 by omega, show min k 61 - 3 = 0 by omega]
      unfold Does
      iintro ⟨Hsp, ⟨Hx, Hxs⟩, Hos, HO⟩
      iapply (Does.last (does_startX (d := d) (i := i) (X := X) (k := k + 3))) $$ [Hsp Hx]; · isplitl [Hsp] <;> iassumption
      iintro Hl
      isplitl [Hl]; · iexact Hl
      isplitl [Hxs]; · iexact Hxs
      isplitl [Hos] <;> iassumption
  · rw [if_neg h, if_neg h, each_none (show 64 ≤ k + 3 by omega), each_none (show 64 ≤ k + 1 + 3 by omega), show min k 61 - 3 = min (k + 1) 61 - 3 by omega]
    exact Does.skip

/-- Starting the load of a chunk of the table. -/
theorem does_startT {c : ℕ} :
    Does d i iprop(freeT (F := F) d i c ∗ each c 16 (fun c => holds d i (trow i c) (T c)))
      (if c < 16 then startT i (cN c) else pure ⟨⟩)
      iprop(readyT d i T c ∗ each (c + 1) 16 (fun c => holds d i (trow i c) (T c))) := by
  unfold readyT
  by_cases h : c < 16
  · rw [if_pos h, if_pos h, each_first h]
    unfold freeT
    refine Does.conv ?_ ((does_start (d := d) (i := i) (X := T c)).framed (R := each (c + 1) 16 (fun c => holds d i (trow i c) (T c)))) .rfl
    iintro ⟨⟨Hb, Hs⟩, Ht, Hts⟩
    isplitr [Hts]; swap; · iexact Hts
    isplitl [Ht]; · iexact Ht
    isplitl [Hb] <;> iassumption
  · rw [if_neg h, if_neg h, each_none (show 16 ≤ c by omega), each_none (show 16 ≤ c + 1 by omega)]
    exact Does.skip

/-- At a chunk's first step the table's side turns to that chunk; at the others it stays. -/
theorem does_turnT {k : ℕ} (hk : k < 64) :
    Does d i iprop(table d i T k ∗ dues (F := F) d i O W) (turnT i k) iprop(reading d i T k ∗ dues d i O W) := by
  unfold turnT table
  by_cases h : k % 4 = 0
  · rw [if_pos h, if_pos h]
    unfold reading
    rw [show readyT d i T (k / 4) = moving d i (ts (pOf (cN (k / 4)))) (trow i (k / 4)) (tb (pOf (cN (k / 4)))) (T (k / 4)) from
      if_pos (by omega), cOf_eq, show cOf (k + 4) = cN (k / 4 + 1) by rw [cOf_eq]; congr 1; omega,
      if_congr (show k + 4 < 64 ↔ k / 4 + 1 < 16 by omega) rfl rfl, each_last (Nat.zero_le (k / 4))]
    unfold Does
    iintro ⟨⟨Hf, Hn, Hts, Hts'⟩, HO⟩
    iapply (Does.use ((does_wait (d := d) (i := i) (O := O) (W := W)))) $$ [Hf HO]; · isplitl [Hf] <;> iassumption
    iintro ⟨Hb, Ht, Hs, HO⟩
    iapply (Does.last (does_startT)) $$ [Hn Hts']; · isplitl [Hn] <;> iassumption
    iintro ⟨Hn, Hts'⟩
    isplitr [HO]; swap; · iexact HO
    isplitl [Hb]; · iexact Hb
    isplitl [Hs]; · iexact Hs
    isplitl [Hn]; · iexact Hn
    isplitr [Hts']; swap; · iexact Hts'
    isplitl [Ht] <;> iassumption
  · rw [if_neg h, if_neg h]; exact Does.skip

/-- Once the step has read its chunk, the table's side is the next step's. -/
theorem reading_next (k : ℕ) : reading d i T k ⊢ table (F := F) d i T (k + 1) := by
  unfold table
  by_cases h : (k + 1) % 4 = 0
  · rw [if_pos h]
    unfold reading
    rw [show (k + 1) / 4 = k / 4 + 1 by omega, cOf_eq]
    iintro ⟨Hb, Hs, Hn, Hts, Hts'⟩
    isplitl [Hn]; · iexact Hn
    isplitl [Hb Hs]
    · unfold freeT owned
      rw [pOf_add]
      isplitl [Hb]; · iexists _; iexact Hb
      iexact Hs
    isplitl [Hts] <;> iassumption
  · rw [if_neg h]
    unfold reading
    rw [cOf_eq, cOf_eq, show (k + 1) / 4 = k / 4 by omega]

/-- A step, from its beginning to the next one's. -/
theorem does_step {k : ℕ} (hk : k < 64) : Does d i (at_ (F := F) d i X T O W k) (step i k) (at_ d i X T O W (k + 1)) := by
  unfold at_ step
  rw [show ready d i X T k = loaded d i X k from if_pos hk, each_first hk (fun j => owned (F := F) d i (orow i j)),
    show spare d i X T (k + 1 + 5) = gone d i X T k by unfold spare; rw [if_pos (by omega)]; rfl,
    each_last (Nat.zero_le k)]
  unfold Does loaded gone
  iintro ⟨⟨Hx, Hos⟩, H1, H2, H3, H4, H5, Ht, Hxd, Hxs, Hod, ⟨Ho, Hor⟩, HO⟩
  iapply (Does.use ((does_turnT hk))) $$ [Ht HO]; · isplitl [Ht] <;> iassumption
  iintro ⟨Ht, HO⟩
  iapply (Does.use ((does_wait (d := d) (i := i) (O := O) (W := W)))) $$ [Hx HO]; · isplitl [Hx] <;> iassumption
  iintro ⟨Hb, Hx, Hxsem, HO⟩
  iapply (Does.use (does_ahead)) $$ [H3 Hxs Hod HO]
  · isplitl [H3]; · iexact H3
    isplitl [Hxs]; · iexact Hxs
    isplitl [Hod] <;> iassumption
  iintro ⟨H3, Hxs, Hod, HO⟩
  unfold reading
  icases Ht with ⟨Htb, Ht⟩
  iapply (Does.use (does_add)) $$ [Hb Htb]; · isplitl [Hb] <;> iassumption
  iintro ⟨Hb, Htb⟩
  iapply (Does.last ((does_start (d := d) (i := i) (X := sumOf X T k)))) $$ [Hb Ho Hos]
  · isplitl [Hb]; · iexact Hb
    isplitl [Ho] <;> iassumption
  iintro Hf
  isplitl [H1]; · iexact H1
  isplitl [H2]; · iexact H2
  isplitl [H3]; · iexact H3
  isplitl [H4]; · iexact H4
  isplitl [H5]; · iexact H5
  isplitl [Hf Hxsem]; · isplitl [Hf] <;> iassumption
  isplitl [Htb Ht]
  · iapply (reading_next k)
    unfold reading
    isplitl [Htb] <;> iassumption
  isplitl [Hxd Hx]; · isplitl [Hx] <;> iassumption
  isplitl [Hxs]; · iexact Hxs
  isplitl [Hod]; · iexact Hod
  isplitl [Hor] <;> iassumption

/-- So do any number of steps. -/
theorem does_steps (n : ℕ) : ∀ k, k + n ≤ 64 → Does d i (at_ (F := F) d i X T O W k) (steps i k n) (at_ d i X T O W (k + n)) := by
  induction n with
  | zero => exact fun k _ => Does.skip
  | succ n ih => exact fun k hk => (does_step (by omega)).seq (by rw [show k + (n + 1) = k + 1 + n by omega]; exact ih (k + 1) (by omega))

/-! ## The whole tile -/

/-- What the tile works on: its rows of `x`, of the table and of the output (holding what `out` says), its buffers and its semaphores. -/
def work (d : Dev nD) (i : grid0.Coords) (X T : ℕ → Block F) (out : ℕ → sProp 𝕄) (O : CellTallies nD τ sig (HIx 1)) (W : Waits sig (HIx 1)) : sProp 𝕄 :=
  iprop(each 0 64 (fun j => holds d i (xrow i j) (X j)) ∗ each 0 16 (fun c => holds d i (trow i c) (T c)) ∗ each 0 64 out
    ∗ free (F := F) d i 0 ∗ free (F := F) d i 1 ∗ free (F := F) d i 2 ∗ free (F := F) d i 3 ∗ free (F := F) d i 4 ∗ free (F := F) d i 5
    ∗ freeT (F := F) d i 0 ∗ freeT (F := F) d i 1 ∗ dues (F := F) d i O W)

/-- When the first step begins, nothing has been written out. -/
theorem at_first :
    iprop(loaded d i X 0 ∗ loaded d i X 1 ∗ loaded d i X 2 ∗ free (F := F) d i 3 ∗ free (F := F) d i 4 ∗ free (F := F) d i 5
      ∗ readyT d i T 0 ∗ freeT (F := F) d i 1 ∗ each 1 16 (fun c => holds d i (trow i c) (T c)) ∗ each 3 64 (fun j => holds d i (xrow i j) (X j))
      ∗ each 0 64 (fun j => owned (F := F) d i (orow i j)) ∗ dues (F := F) d i O W)
      ⊢ at_ d i X T O W 0 := by
  unfold at_ table ready spare
  simp only [Nat.reduceLT, Nat.reduceLeDiff, Nat.reduceAdd, Nat.reduceMod, Nat.reduceDiv, zero_add, ↓reduceIte, Nat.zero_min, Nat.zero_sub, Nat.zero_mod, Nat.zero_div, Nat.zero_le,
    inf_of_le_left]
  rw [each_none (le_refl 0), each_none (le_refl 0), each_none (le_refl 0)]
  iintro ⟨H0, H1, H2, H3, H4, H5, Ht0, Ht1, Ht, Hx, Ho, HO⟩
  isplitl [H0]; · iexact H0
  isplitl [H1]; · iexact H1
  isplitl [H2]; · iexact H2
  isplitl [H3]; · iexact H3
  isplitl [H4]; · iexact H4
  isplitl [H5]; · iexact H5
  isplitl [Ht0 Ht1 Ht]
  · isplitl [Ht0]; · iexact Ht0
    isplitl [Ht1]; · iexact Ht1
    isplitr; · iempintro
    iexact Ht
  isplitr; · iempintro
  isplitl [Hx]; · iexact Hx
  isplitr; · iempintro
  isplitl [Ho] <;> iassumption

/-- After the last step, six write-outs are under way. -/
theorem at_last :
    at_ (F := F) d i X T O W 64
      ⊢ iprop(gone d i X T 58 ∗ gone d i X T 59 ∗ gone d i X T 60 ∗ gone d i X T 61 ∗ gone d i X T 62 ∗ gone d i X T 63
        ∗ freeT (F := F) d i 0 ∗ freeT (F := F) d i 1 ∗ each 0 16 (fun c => holds d i (trow i c) (T c)) ∗ each 0 64 (fun j => holds d i (xrow i j) (X j))
        ∗ each 0 58 (fun j => holds d i (orow i j) (sumOf X T j)) ∗ dues d i O W) := by
  unfold at_ table ready spare readyT
  simp only [Nat.reduceLT, Nat.reduceLeDiff, Nat.reduceAdd, Nat.reduceSub, Nat.reduceMod, Nat.reduceDiv, ↓reduceIte, show min 64 61 = 61 from rfl, lt_self_iff_false]
  iintro ⟨H0, H1, H2, H3, H4, H5, ⟨Ht0, Ht1, Ht, -⟩, Hx, -, Ho, -, HO⟩
  isplitl [H0]; · iexact H0
  isplitl [H1]; · iexact H1
  isplitl [H2]; · iexact H2
  isplitl [H3]; · iexact H3
  isplitl [H4]; · iexact H4
  isplitl [H5]; · iexact H5
  isplitl [Ht0]; · iexact Ht0
  isplitl [Ht1]; · iexact Ht1
  isplitl [Ht]; · iexact Ht
  isplitl [Hx]; · iexact Hx
  isplitl [Ho] <;> iassumption

/-- Waiting for the last six write-outs. -/
theorem does_drain :
    Does d i iprop((gone d i X T 58 ∗ gone d i X T 59 ∗ gone d i X T 60 ∗ gone d i X T 61 ∗ gone d i X T 62 ∗ gone d i X T 63)
        ∗ each 0 58 (fun j => holds d i (orow i j) (sumOf X T j)) ∗ dues (F := F) d i O W)
      (drain i 58 6)
      iprop(free (F := F) d i 0 ∗ free (F := F) d i 1 ∗ free (F := F) d i 2 ∗ free (F := F) d i 3 ∗ free (F := F) d i 4 ∗ free (F := F) d i 5
        ∗ each 0 64 (fun j => holds d i (orow i j) (sumOf X T j)) ∗ dues d i O W) := by
  rw [each_last (show 0 ≤ 63 by decide), each_last (show 0 ≤ 62 by decide), each_last (show 0 ≤ 61 by decide), each_last (show 0 ≤ 60 by decide),
    each_last (show 0 ≤ 59 by decide), each_last (show 0 ≤ 58 by decide)]
  simp only [drain, Nat.reduceAdd]
  unfold Does
  iintro ⟨⟨H0, H1, H2, H3, H4, H5⟩, Ho, HO⟩
  iapply (Does.use (does_waitO (d := d) (i := i) (X := X) (T := T) (O := O) (W := W) (k := 58))) $$ [H0 HO]; · isplitl [H0] <;> iassumption
  iintro ⟨F4, O0, HO⟩
  iapply (Does.use (does_waitO (d := d) (i := i) (X := X) (T := T) (O := O) (W := W) (k := 59))) $$ [H1 HO]; · isplitl [H1] <;> iassumption
  iintro ⟨F5, O1, HO⟩
  iapply (Does.use (does_waitO (d := d) (i := i) (X := X) (T := T) (O := O) (W := W) (k := 60))) $$ [H2 HO]; · isplitl [H2] <;> iassumption
  iintro ⟨F0, O2, HO⟩
  iapply (Does.use (does_waitO (d := d) (i := i) (X := X) (T := T) (O := O) (W := W) (k := 61))) $$ [H3 HO]; · isplitl [H3] <;> iassumption
  iintro ⟨F1, O3, HO⟩
  iapply (Does.use (does_waitO (d := d) (i := i) (X := X) (T := T) (O := O) (W := W) (k := 62))) $$ [H4 HO]; · isplitl [H4] <;> iassumption
  iintro ⟨F2, O4, HO⟩
  iapply (Does.use (does_waitO (d := d) (i := i) (X := X) (T := T) (O := O) (W := W) (k := 63))) $$ [H5 HO]; · isplitl [H5] <;> iassumption
  iintro ⟨F3, O5, HO⟩
  rw [wp_pure]
  imodintro
  isplitl [F0]; · iexact F0
  isplitl [F1]; · iexact F1
  isplitl [F2]; · iexact F2
  isplitl [F3]; · iexact F3
  isplitl [F4]; · iexact F4
  isplitl [F5]; · iexact F5
  isplitr [HO]; swap; · iexact HO
  isplitl [O5]; · iexact O5
  isplitl [O4]; · iexact O4
  isplitl [O3]; · iexact O3
  isplitl [O2]; · iexact O2
  isplitl [O1]; · iexact O1
  isplitl [O0] <;> iassumption

/-- The three steps whose loads are begun before the first step, apart. -/
theorem first_three (Φ : ℕ → sProp 𝕄) : each 0 64 Φ = iprop(Φ 0 ∗ Φ 1 ∗ Φ 2 ∗ each 3 64 Φ) := by
  rw [each_first (show 0 < 64 by decide), each_first (show 0 + 1 < 64 by decide), each_first (show 0 + 1 + 1 < 64 by decide)]

/-- The body adds to every row of `x` the table's row, and gives back all it was lent. -/
theorem does_body :
    Does d i (work (F := F) d i X T (fun j => owned (F := F) d i (orow i j)) O W) (body i)
      (work d i X T (fun j => holds d i (orow i j) (sumOf X T j)) O W) := by
  unfold work body Does
  iintro ⟨Hx, Ht, Ho, H0, H1, H2, H3, H4, H5, Ht0, Ht1, HO⟩
  iapply (Does.use (does_startT (d := d) (i := i) (T := T) (c := 0))) $$ [Ht0 Ht]; · isplitl [Ht0] <;> iassumption
  iintro ⟨Ht0, Ht⟩
  ihave Hx := (Entails.of_eq (first_three (fun j => holds d i (xrow i j) (X j)))) $$ Hx
  icases Hx with ⟨Hx0, Hx1, Hx2, Hx⟩
  iapply (Does.use (does_startX (d := d) (i := i) (X := X) (k := 0))) $$ [H0 Hx0]
  · isplitl [H0]; · iexact H0
    iexact Hx0
  iintro H0
  iapply (Does.use (does_startX (d := d) (i := i) (X := X) (k := 1))) $$ [H1 Hx1]
  · isplitl [H1]; · iexact H1
    iexact Hx1
  iintro H1
  iapply (Does.use (does_startX (d := d) (i := i) (X := X) (k := 2))) $$ [H2 Hx2]
  · isplitl [H2]; · iexact H2
    iexact Hx2
  iintro H2
  iapply (Does.use (does_steps (d := d) (i := i) (X := X) (T := T) (O := O) (W := W) 64 0 (by decide))) $$ [H0 H1 H2 H3 H4 H5 Hx Ht0 Ht1 Ht Ho HO]
  · iapply at_first
    isplitl [H0]; · iexact H0
    isplitl [H1]; · iexact H1
    isplitl [H2]; · iexact H2
    isplitl [H3]; · iexact H3
    isplitl [H4]; · iexact H4
    isplitl [H5]; · iexact H5
    isplitl [Ht0]; · iexact Ht0
    isplitl [Ht1]; · iexact Ht1
    isplitl [Ht]; · iexact Ht
    isplitl [Hx]; · iexact Hx
    isplitl [Ho] <;> iassumption
  iintro Hend
  ihave Hend := at_last $$ Hend
  icases Hend with ⟨H0, H1, H2, H3, H4, H5, Ht0, Ht1, Ht, Hx, Ho, HO⟩
  iapply (Does.last does_drain) $$ [H0 H1 H2 H3 H4 H5 Ho HO]
  · isplitl [H0 H1 H2 H3 H4 H5]
    · isplitl [H0]; · iexact H0
      isplitl [H1]; · iexact H1
      isplitl [H2]; · iexact H2
      isplitl [H3]; · iexact H3
      isplitl [H4] <;> iassumption
    isplitl [Ho] <;> iassumption
  iintro ⟨H0, H1, H2, H3, H4, H5, Ho, HO⟩
  isplitl [Hx]; · iexact Hx
  isplitl [Ht]; · iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [Ht0]; · iexact Ht0
  isplitl [Ht1] <;> iassumption

end Cert.KernelIdeal.Pos
-- ==== Proof.Blocks.lean ====
module

public import proofs.«01_k».proof.Proof.Schedule

@[expose] public section

set_option maxRecDepth 65536

noncomputable section

/-! Which elements a tile's blocks are, that the blocks of all tiles make up the arrays, and what the sums are. -/

namespace Cert.KernelIdeal.Pos

open Idealize.ShloMosaic Cert.KernelIdeal Cert.KernelIdeal.Facts₀ Cert.KernelIdeal.Facts
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 1) (Elt F) ℕ UU ℕ

/-! ## Membership -/

/-- Where a block begins, in closed form: tile `(core, subcore)` has the 256 rows from `512 * subcore + 256 * core` on. -/
theorem rowOff_eq (i : grid0.Coords) (b : Fin 4) (c : Fin 16) :
    rowOff i b c = ![b.val, 512 * (i 1).val + 256 * (i 0).val + 16 * c.val, 0] :=
  match b with
  | 0 => Gen.k0_off2_eq i c | 1 => Gen.k0_off3_eq i c | 2 => Gen.k0_off4_eq i c | 3 => Gen.k0_off5_eq i c

/-- The rectangle of the three-axis arrays that a block of sixteen rows is. -/
abbrev slab (i : grid0.Coords) (b : Fin 4) (c : Fin 16) : Rect S4x8192x768 :=
  Rect.unit (s := S4x8192x768) (rowOff i b c) S1x16x768.size (rowOff_inb i b c)

/-- The rectangle of the table that a block of sixteen rows is. -/
abbrev tslab (i : grid0.Coords) (c : Fin 16) : Rect S8192x768 :=
  Rect.unit (s := S8192x768) (k0_off1 i (BitVec.ofNat 32 (16 * c.val))) S16x768.size (k0_off1_inb i c)

/-- The elements of a step's rows of `x`, of its rows of the result, and of a chunk of the table, are its rectangle's. -/
theorem set_xrow (i : grid0.Coords) (k : ℕ) : (xrow i k).view.set = (slab i (bOf k) (cOf k)).set :=
  (View.set_reshape _ _).trans (View.set_slice_whole _ _)
theorem set_orow (i : grid0.Coords) (k : ℕ) : (orow i k).view.set = (slab i (bOf k) (cOf k)).set :=
  (View.set_reshape _ _).trans (View.set_slice_whole _ _)
theorem set_trow (i : grid0.Coords) (c : ℕ) : (trow i c).view.set = (tslab i (cN c)).set :=
  View.set_slice_whole _ _

/-- An element lies in a block of a three-axis array when its batch entry and its row do. -/
theorem mem_slab (i : grid0.Coords) (b : Fin 4) (c : Fin 16) (y : S4x8192x768.Idx) :
    y ∈ (slab i b c).set ↔ (y 0).val = b.val ∧ 512 * (i 1).val + 256 * (i 0).val + 16 * c.val ≤ (y 1).val
      ∧ (y 1).val < 512 * (i 1).val + 256 * (i 0).val + 16 * c.val + 16 := by
  have h2 : (y 2).val < 768 := (y 2).isLt
  rw [Rect.mem_set_unit, rowOff_eq]
  constructor
  · intro h
    have h0 : b.val ≤ (y 0).val ∧ (y 0).val < b.val + 1 := h 0
    have h1 : 512 * (i 1).val + 256 * (i 0).val + 16 * c.val ≤ (y 1).val
      ∧ (y 1).val < 512 * (i 1).val + 256 * (i 0).val + 16 * c.val + 16 := h 1
    omega
  · rintro ⟨h0, h1⟩ a
    match a with
    | 0 => exact (⟨by omega, by omega⟩ : b.val ≤ (y 0).val ∧ (y 0).val < b.val + 1)
    | 1 => exact h1
    | 2 => exact (⟨by omega, by omega⟩ : 0 ≤ (y 2).val ∧ (y 2).val < 0 + 768)

/-- An element lies in a block of the table when its row does. -/
theorem mem_tslab (i : grid0.Coords) (c : Fin 16) (y : S8192x768.Idx) :
    y ∈ (tslab i c).set ↔ 512 * (i 1).val + 256 * (i 0).val + 16 * c.val ≤ (y 0).val
      ∧ (y 0).val < 512 * (i 1).val + 256 * (i 0).val + 16 * c.val + 16 := by
  have h1 : (y 1).val < 768 := (y 1).isLt
  rw [Rect.mem_set_unit, Gen.k0_off1_eq]
  constructor
  · exact fun h => h 0
  · intro h a
    match a with
    | 0 => exact h
    | 1 => exact (⟨by omega, by omega⟩ : 0 ≤ (y 1).val ∧ (y 1).val < 0 + 768)

/-! ## The tiles' blocks make up the arrays -/

/-- The grid coordinates of vector subcore `s` of core `c`. -/
def coords (c : Fin (grid0.bound 0)) (s : Fin (grid0.bound 1)) : grid0.Coords :=
  fun | 0 => c | 1 => s | ⟨_ + 2, h⟩ => absurd h (Nat.not_lt.2 (Nat.le_add_left _ _))

/-- An array of which every element is in one block of one tile is, as an ownership, its blocks. -/
theorem pts_cut {ℓ : Loc nD τ sig} (f : Buf (Elt F) ℓ) (n : ℕ) (B : Fin (grid0.bound 0) → Fin (grid0.bound 1) → ℕ → Finset (Idx ℓ))
    (core : Idx ℓ → Fin (grid0.bound 0)) (sub : Idx ℓ → Fin (grid0.bound 1)) (step : Idx ℓ → ℕ) (hstep : ∀ y, step y < n)
    (hB : ∀ c s j, j < n → ∀ y, y ∈ B c s j ↔ core y = c ∧ sub y = s ∧ step y = j) :
    (ℓ ↦{fullShare} f : sProp 𝕄)
      = bigSep Finset.univ fun c => bigSep Finset.univ fun s => each 0 n fun j => ℓ ↦[B c s j]{fullShare} f := by
  classical
  have hmem : ∀ {c s j y}, j ∈ Finset.Ico 0 n → y ∈ B c s j → core y = c ∧ sub y = s ∧ step y = j :=
    fun hj hy => (hB _ _ _ (Finset.mem_Ico.mp hj).2 _).mp hy
  have hall : (Finset.univ : Finset (Idx ℓ))
      = Finset.univ.biUnion fun c => Finset.univ.biUnion fun s => (Finset.Ico 0 n).biUnion (B c s) := by
    ext y
    simp only [Finset.mem_univ, Finset.mem_biUnion, true_and, true_iff]
    exact ⟨core y, sub y, step y, Finset.mem_Ico.mpr ⟨Nat.zero_le _, hstep y⟩, (hB _ _ _ (hstep y) y).mpr ⟨rfl, rfl, rfl⟩⟩
  show (ℓ ↦[Finset.univ]{fullShare} f : sProp 𝕄) = _
  rw [hall, pointsTo_biUnion]
  · refine bigSep_congr fun c _ => ?_
    rw [pointsTo_biUnion]
    · refine bigSep_congr fun s _ => ?_
      rw [pointsTo_biUnion]; · rfl
      intro j hj j' hj' hne
      exact Finset.disjoint_left.mpr fun y h h' => hne ((hmem hj h).2.2.symm.trans (hmem hj' h').2.2)
    · intro s _ s' _ hne
      refine Finset.disjoint_left.mpr fun y h h' => hne ?_
      obtain ⟨j, hj, h⟩ := Finset.mem_biUnion.mp h
      obtain ⟨j', hj', h'⟩ := Finset.mem_biUnion.mp h'
      exact (hmem hj h).2.1.symm.trans (hmem hj' h').2.1
  · intro c _ c' _ hne
    refine Finset.disjoint_left.mpr fun y h h' => hne ?_
    obtain ⟨s, _, h⟩ := Finset.mem_biUnion.mp h
    obtain ⟨s', _, h'⟩ := Finset.mem_biUnion.mp h'
    obtain ⟨j, hj, h⟩ := Finset.mem_biUnion.mp h
    obtain ⟨j', hj', h'⟩ := Finset.mem_biUnion.mp h'
    exact (hmem hj h).1.symm.trans (hmem hj' h').1

/-- The core and the subcore that row `n` of the table falls to. -/
def coreOf (n : ℕ) : Fin (grid0.bound 0) := ⟨n / 256 % 2, Nat.mod_lt _ (by decide)⟩
def subOf (n : ℕ) : Fin (grid0.bound 1) := ⟨n / 512 % 16, Nat.mod_lt _ (by decide)⟩

/-- Every element of a three-axis array is in exactly one block: its row says whose, and row and batch entry which. -/
theorem slab_of (c : Fin (grid0.bound 0)) (s : Fin (grid0.bound 1)) (j : ℕ) (hj : j < 64) (y : S4x8192x768.Idx) :
    y ∈ (slab (coords c s) (bOf j) (cOf j)).set
      ↔ coreOf (y 1).val = c ∧ subOf (y 1).val = s ∧ 4 * ((y 1).val % 256 / 16) + (y 0).val = j := by
  have h0 : (y 0).val < 4 := (y 0).isLt
  have h1 : (y 1).val < 8192 := (y 1).isLt
  have hc : c.val < 2 := c.isLt
  have hs : s.val < 16 := s.isLt
  rw [mem_slab, Fin.ext_iff, Fin.ext_iff]
  show (y 0).val = j % 4 ∧ 512 * s.val + 256 * c.val + 16 * (j / 4 % 16) ≤ (y 1).val
      ∧ (y 1).val < 512 * s.val + 256 * c.val + 16 * (j / 4 % 16) + 16
    ↔ (y 1).val / 256 % 2 = c.val ∧ (y 1).val / 512 % 16 = s.val ∧ 4 * ((y 1).val % 256 / 16) + (y 0).val = j
  omega

/-- Every element of the table is in exactly one block: its row says whose and which. -/
theorem tslab_of (c : Fin (grid0.bound 0)) (s : Fin (grid0.bound 1)) (j : ℕ) (hj : j < 16) (y : S8192x768.Idx) :
    y ∈ (tslab (coords c s) (cN j)).set
      ↔ coreOf (y 0).val = c ∧ subOf (y 0).val = s ∧ (y 0).val % 256 / 16 = j := by
  have h1 : (y 0).val < 8192 := (y 0).isLt
  have hc : c.val < 2 := c.isLt
  have hs : s.val < 16 := s.isLt
  rw [mem_tslab, Fin.ext_iff, Fin.ext_iff]
  show 512 * s.val + 256 * c.val + 16 * (j % 16) ≤ (y 0).val
      ∧ (y 0).val < 512 * s.val + 256 * c.val + 16 * (j % 16) + 16
    ↔ (y 0).val / 256 % 2 = c.val ∧ (y 0).val / 512 % 16 = s.val ∧ (y 0).val % 256 / 16 = j
  omega

variable (d : Dev nD)

/-- Where `x`, the table and the result lie on device `d`. -/
abbrev xLoc : Loc nD τ sig := (d.tc : Thread nD τ).loc main_arg0
abbrev tLoc : Loc nD τ sig := (d.tc : Thread nD τ).loc main_arg1
abbrev oLoc : Loc nD τ sig := (d.tc : Thread nD τ).loc main_v0

/-- The ownership of one block of `x`, of the table and of the result, as a part of the array holding `f`. -/
abbrev xBlk (i : grid0.Coords) (f : Buf (Elt F) (xLoc d)) (j : ℕ) : sProp 𝕄 := iprop(xLoc d ↦[(xrow i j).view.set]{fullShare} f)
abbrev tBlk (i : grid0.Coords) (f : Buf (Elt F) (tLoc d)) (j : ℕ) : sProp 𝕄 := iprop(tLoc d ↦[(trow i j).view.set]{fullShare} f)
abbrev oBlk (i : grid0.Coords) (f : Buf (Elt F) (oLoc d)) (j : ℕ) : sProp 𝕄 := iprop(oLoc d ↦[(orow i j).view.set]{fullShare} f)

/-- `x` is, as an ownership, the 64 blocks of each tile. -/
theorem cut_x (f : Buf (Elt F) (xLoc d)) : (xLoc d ↦{fullShare} f : sProp 𝕄)
    = bigSep Finset.univ fun c => bigSep Finset.univ fun s => each 0 64 (xBlk d (coords c s) f) :=
  pts_cut f 64 (fun c s j => (xrow (coords c s) j).view.set)
    (fun y : S4x8192x768.Idx => coreOf (y 1).val) (fun y : S4x8192x768.Idx => subOf (y 1).val)
    (fun y : S4x8192x768.Idx => 4 * ((y 1).val % 256 / 16) + (y 0).val)
    (fun y : S4x8192x768.Idx => by have : (y 0).val < 4 := (y 0).isLt; omega)
    fun c s j hj y => (Eq.to_iff (congrArg (y ∈ ·) (set_xrow (coords c s) j))).trans (slab_of c s j hj y)

/-- The result is, as an ownership, the 64 blocks of each tile. -/
theorem cut_o (f : Buf (Elt F) (oLoc d)) : (oLoc d ↦{fullShare} f : sProp 𝕄)
    = bigSep Finset.univ fun c => bigSep Finset.univ fun s => each 0 64 (oBlk d (coords c s) f) :=
  pts_cut f 64 (fun c s j => (orow (coords c s) j).view.set)
    (fun y : S4x8192x768.Idx => coreOf (y 1).val) (fun y : S4x8192x768.Idx => subOf (y 1).val)
    (fun y : S4x8192x768.Idx => 4 * ((y 1).val % 256 / 16) + (y 0).val)
    (fun y : S4x8192x768.Idx => by have : (y 0).val < 4 := (y 0).isLt; omega)
    fun c s j hj y => (Eq.to_iff (congrArg (y ∈ ·) (set_orow (coords c s) j))).trans (slab_of c s j hj y)

/-- The table is, as an ownership, the 16 blocks of each tile. -/
theorem cut_t (f : Buf (Elt F) (tLoc d)) : (tLoc d ↦{fullShare} f : sProp 𝕄)
    = bigSep Finset.univ fun c => bigSep Finset.univ fun s => each 0 16 (tBlk d (coords c s) f) :=
  pts_cut f 16 (fun c s j => (trow (coords c s) j).view.set)
    (fun y : S8192x768.Idx => coreOf (y 0).val) (fun y : S8192x768.Idx => subOf (y 0).val)
    (fun y : S8192x768.Idx => (y 0).val % 256 / 16) (fun y : S8192x768.Idx => by omega)
    fun c s j hj y => (Eq.to_iff (congrArg (y ∈ ·) (set_trow (coords c s) j))).trans (tslab_of c s j hj y)

/-! ## A block's contents and its array's -/

section Contents

variable {d} {i : grid0.Coords}

/-- A block of an array holds what is read of the array there. -/
theorem holds_of_pts {sp : Space} (b : Memref sig .scVector sp S16x768 .f32) (f : Buf (Elt F) (View.loc (tile d i) b.view)) :
    (View.loc (tile d i) b.view ↦[b.view.set]{fullShare} f : sProp 𝕄) ⊢ holds d i b (b.view.read (Elt F) f) := by
  unfold holds
  iintro H; iexists f; isplitr; · ipureintro; rfl
  iexact H

/-- A block that holds what is read of an array is the array's. -/
theorem pts_of_holds {sp : Space} (b : Memref sig .scVector sp S16x768 .f32) (f : Buf (Elt F) (View.loc (tile d i) b.view)) {X : Block F}
    (hX : b.view.read (Elt F) f = X) :
    holds d i b X ⊢ (View.loc (tile d i) b.view ↦[b.view.set]{fullShare} f : sProp 𝕄) := by
  unfold holds
  iintro ⟨%g, %hg, H⟩
  ihave H' := (Entails.of_eq (pointsTo_congr (g := f) ?_)) $$ H
  · intro y hy
    obtain ⟨x, -, rfl⟩ := Finset.mem_map.mp hy
    have := congrFun (hg.trans hX.symm) x
    rw [View.read_apply, View.read_apply] at this
    exact (cast_inj _).mp this
  iexact H'

end Contents

/-! ## The sums -/

variable (m : (ℓ : Loc nD τ sig) → Buf (Elt F) ℓ)

/-- The table's element that an element of `x` is added to. -/
def under (y : S4x8192x768.Idx) : S8192x768.Idx := fun a => y a.succ

/-- The result. -/
def total : Buf (Elt F) (oLoc d) := fun y : S4x8192x768.Idx => (FloatOps.addf (m (xLoc d) y : F .f32) (m (tLoc d) (under y) : F .f32) : F .f32)

/-- What a tile's blocks of `x` and of the table hold at the launch. -/
def xIn (i : grid0.Coords) (j : ℕ) : Block F := (xrow i j).view.read (Elt F) (m (xLoc d))
def tIn (i : grid0.Coords) (j : ℕ) : Block F := (trow i j).view.read (Elt F) (m (tLoc d))

/-- The table's rows of a step lie under the step's rows of `x`. -/
theorem under_slab (i : grid0.Coords) (k : ℕ) (x : S16x768.Idx) :
    under ((xrow i k).view.emb x) = (trow i (k / 4)).view.emb x := by
  show under ((slab i (bOf k) (cOf k)).emb (Shape.reshapeEquiv _ x)) = (tslab i (cN (k / 4))).emb x
  rw [Shape.reshapeEquiv_cons_one]
  funext a
  apply Fin.ext
  show rowOff i (bOf k) (cOf k) a.succ + 1 * _ = k0_off1 i (BitVec.ofNat 32 (16 * (cN (k / 4)).val)) a + 1 * _
  rw [rowOff_eq, Gen.k0_off1_eq]
  match a with
  | 0 => rfl
  | 1 => rfl

/-- A step's sums are the result's elements in its rows. -/
theorem read_total (i : grid0.Coords) (k : ℕ) :
    (orow i k).view.read (Elt F) (total d m) = sumOf (xIn d m i) (tIn d m i) k := by
  funext x
  show (FloatOps.addf (m (xLoc d) ((xrow i k).view.emb x) : F .f32) (m (tLoc d) (under ((xrow i k).view.emb x)) : F .f32) : F .f32)
    = FloatOps.addf (m (xLoc d) ((xrow i k).view.emb x) : F .f32) (m (tLoc d) ((trow i (k / 4)).view.emb x) : F .f32)
  rw [under_slab]

end Cert.KernelIdeal.Pos
-- ==== Proof.BodyEq.lean ====
module

public import proofs.«01_k».proof.Proof.Steps

@[expose] public section

set_option maxRecDepth 65536

noncomputable section

namespace Cert.KernelIdeal.Pos

open Idealize.ShloMosaic Idealize.SL.Sem Cert.KernelIdeal Cert.KernelIdeal.Facts₀ Cert.KernelIdeal.Facts

variable {F : FTy → Type} [FloatOps F] [Facts]

/-- The printed body is `body`. -/
theorem body_eq (i : grid0.Coords) :
    cc0__sc_body (F := F) i xA (Memref.isWhole_whole _) tA (Memref.isWhole_whole _) oA (Memref.isWhole_whole _)
      (xb 0) (xb_whole 0) (xb 1) (xb_whole 1) (xb 2) (xb_whole 2) (xb 3) (xb_whole 3) (xb 4) (xb_whole 4) (xb 5) (xb_whole 5)
      (tb 0) (tb_whole 0) (tb 1) (tb_whole 1)
      cc0_scratch8 cc0_scratch9 cc0_scratch10 cc0_scratch11 cc0_scratch12 cc0_scratch13 cc0_scratch14 cc0_scratch15
      cc0_scratch16 cc0_scratch17 cc0_scratch18 cc0_scratch19 cc0_scratch20 cc0_scratch21
      = body i := by
  simp only [cc0__sc_body, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48,
    Prog.bind_assoc, Prog.lift, Prog.bind_op, Prog.bind_ret, Prog.pure_eq_ret]
  simp only [body, steps, step, drain, turnT, ahead, startT, waitT, startX, waitX, startO, waitO, addRows, addLanes,
    Nat.reduceMod, Nat.reduceAdd, Nat.reduceSub, Nat.reduceLT, Nat.reduceLeDiff, ↓reduceIte, reduceIte, OfNat.ofNat_ne_zero, Nat.reduceEqDiff, one_ne_zero,
    Prog.bind_assoc, Prog.lift, Prog.bind_op, Prog.bind_ret, Prog.pure_eq_ret]
  rfl

end Cert.KernelIdeal.Pos
-- ==== Proof.Launch.lean ====
module

public import proofs.«01_k».proof.Proof.Blocks
public import proofs.«01_k».proof.Proof.BodyEq

@[expose] public section

set_option maxRecDepth 65536

noncomputable section

/-! The launch: each tile is lent its blocks of the three arrays and gives them back with the sums in the result's. -/

namespace Cert.KernelIdeal.Pos

open Idealize.ShloMosaic Cert.KernelIdeal Cert.KernelIdeal.Facts₀ Cert.KernelIdeal.Facts
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The semaphores and the buffers that a tile works with. -/
def semsOf : Finset (DmaSem sig) :=
  {cc0_scratch8.sem, cc0_scratch16.sem, cc0_scratch9.sem, cc0_scratch17.sem, cc0_scratch10.sem, cc0_scratch18.sem, cc0_scratch11.sem, cc0_scratch19.sem,
    cc0_scratch12.sem, cc0_scratch20.sem, cc0_scratch13.sem, cc0_scratch21.sem, cc0_scratch14.sem, cc0_scratch15.sem}
def bufsOf : Finset (Ref sig .scVector) :=
  {cc0_scratch0, cc0_scratch1, cc0_scratch2, cc0_scratch3, cc0_scratch4, cc0_scratch5, cc0_scratch6, cc0_scratch7}

/-- Those semaphores are the tile's own. -/
theorem scoped_sems : ∀ s ∈ semsOf, (SemLoc.dma s : SemLoc sig).isScoped .scVector = true := by decide

/-- What `Φ` says of all of those semaphores, one by one. -/
theorem over_sems {M : Type} [URA M] (Φ : DmaSem sig → sProp M) : bigSep semsOf Φ
    = iprop(Φ cc0_scratch8.sem ∗ Φ cc0_scratch16.sem ∗ Φ cc0_scratch9.sem ∗ Φ cc0_scratch17.sem ∗ Φ cc0_scratch10.sem ∗ Φ cc0_scratch18.sem
      ∗ Φ cc0_scratch11.sem ∗ Φ cc0_scratch19.sem ∗ Φ cc0_scratch12.sem ∗ Φ cc0_scratch20.sem ∗ Φ cc0_scratch13.sem ∗ Φ cc0_scratch21.sem
      ∗ Φ cc0_scratch14.sem ∗ Φ cc0_scratch15.sem) := by
  unfold semsOf
  iterate 13 rw [SparseCore.bigSep_insert' (by decide)]
  rw [bigSep_singleton]

/-- What `Φ` says of all of those buffers, one by one. -/
theorem over_bufs {M : Type} [URA M] (Φ : Ref sig .scVector → sProp M) : bigSep bufsOf Φ
    = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7) := by
  unfold bufsOf
  iterate 7 rw [SparseCore.bigSep_insert' (by decide)]
  rw [bigSep_singleton]

variable {F : FTy → Type} [FloatOps F] [Facts]

local notation "𝕄" => MT nD τ sig (HIx 1) (Elt F) ℕ UU ℕ

/-! ## The program as the launch theorem sees it -/

/-- The labels, the kernels' configuration, the definitions and the loop variants that the launch theorem takes. -/
abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := Variants.none.lift
abbrev v₀ : 𝒱.V := Sum.inl none

/-- The kernel runs on the grid's cores and subcores. -/
theorem nCore_zero : (K (F := F)).nCore 0 = grid0.bound 0 := rfl
theorem nSub_zero : (K (F := F)).nSub 0 = grid0.bound 1 := rfl

/-- The configuration meets the launch theorem's conditions. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes' rounds are kept. -/
abbrev EH : Emb (URounds (GSem nD τ sig) ℕ) (MT nD τ sig (HIx 1) (Elt F) ℕ UU ℕ) := embL

variable (m : (ℓ : Loc nD τ sig) → Buf (Elt F) ℓ) (ρ : Dev nD → PrngReg)

/-- The blocks of the tile at `i`: those of `x` and of the table as the launch finds them, those of the result as `f` has them. -/
def lend (d : Dev nD) (i : grid0.Coords) (f : Buf (Elt F) (oLoc d)) : sProp 𝕄 :=
  iprop(each 0 64 (xBlk d i (m (xLoc d))) ∗ each 0 16 (tBlk d i (m (tLoc d))) ∗ each 0 64 (oBlk d i f))

/-- What a tile is lent can be stored in a handshake. -/
instance lend_storable (d : Dev nD) (i : grid0.Coords) (f : Buf (Elt F) (oLoc d)) : BI.Storable (upEmb : UEmb _ 𝕄) (lend m d i f) := by
  unfold lend each; infer_instance

/-- The blocks of all the tiles of a core. -/
def lendCore (d : Dev nD) (c : Fin (grid0.bound 0)) (f : Buf (Elt F) (oLoc d)) : sProp 𝕄 :=
  bigSep Finset.univ fun s : Fin (grid0.bound 1) => lend m d (coords c s) f

/-- What a core is lent can be stored in a handshake. -/
instance lendCore_storable (d : Dev nD) (c : Fin (grid0.bound 0)) (f : Buf (Elt F) (oLoc d)) : BI.Storable (upEmb : UEmb _ 𝕄) (lendCore m d c f) := by
  unfold lendCore; infer_instance

/-- The blocks of all the tiles are the arrays. -/
theorem lend_all (d : Dev nD) (f : Buf (Elt F) (oLoc d)) : (bigSep Finset.univ fun c => lendCore m d c f)
    = (iprop((xLoc d ↦{fullShare} m (xLoc d)) ∗ (tLoc d ↦{fullShare} m (tLoc d)) ∗ oLoc d ↦{fullShare} f) : sProp 𝕄) := by
  unfold lendCore lend
  rw [cut_x, cut_t, cut_o]
  simp only [bigSep_sep']

/-- What the call hands over and takes back. -/
def P : (K (F := F)).Pay (nD := nD) (Val := Elt F) (Name := ℕ) (U := UU) where
  st := fun q d c => match q with | 0 => lendCore m d (Fin.cast nCore_zero c) (m (oLoc d))
  dn := fun q d c => match q with | 0 => lendCore m d (Fin.cast nCore_zero c) (total d m)
  go := fun q d c s => match q with | 0 => lend m d (coords (Fin.cast nCore_zero c) (Fin.cast nSub_zero s)) (m (oLoc d))
  td := fun q d c s => match q with | 0 => lend m d (coords (Fin.cast nCore_zero c) (Fin.cast nSub_zero s)) (total d m)
  x := fun _ _ => iprop(emp)

/-- So all that the handshakes carry can be. -/
instance P_storable : (P (F := F) m).IsStorable where
  st q d c := match q with | 0 => lendCore_storable m d (Fin.cast nCore_zero c) (m (oLoc d))
  dn q d c := match q with | 0 => lendCore_storable m d (Fin.cast nCore_zero c) (total d m)
  go q d c s := match q with | 0 => lend_storable m d (coords (Fin.cast nCore_zero c) (Fin.cast nSub_zero s)) (m (oLoc d))
  td q d c s := match q with | 0 => lend_storable m d (coords (Fin.cast nCore_zero c) (Fin.cast nSub_zero s)) (total d m)

/-! ## A tile's buffers and semaphores -/

section Own

variable (d : Dev nD) (i : grid0.Coords)

/-- The tile's semaphore `s` and its buffer `b`, named from outside the tile. -/
abbrev cellOf (s : DmaSem sig) : GSem nD τ sig := (tile d i, .dma s)
abbrev refOf (b : Ref sig .scVector) : DevRef τ sig := (tile d i).2.devRef b

/-- The semaphores and the buffers of the tile that the kernel does not use. -/
def restS : sProp 𝕄 := bigSep (ownCells (tile d i) \ semsOf.image (cellOf d i)) fun g => semVal g 0
def restB : sProp 𝕄 := bigSep (ownRefs (tile d i).2 \ bufsOf.image (refOf d i)) fun b => iprop(∃ f, (((tile d i).1, b) : Loc nD τ sig) ↦{fullShare} f)

/-- A tile's semaphores are the ones the kernel uses and the rest. -/
theorem sems_cut : (ownSems0 (tile d i) : sProp 𝕄) = iprop((bigSep semsOf fun s => idle d i s) ∗ restS d i) := by
  unfold SparseCore.Cfg.ownSems0 restS
  rw [bigSep_sdiff_split (t := semsOf.image (cellOf d i)), SparseCore.bigSep_image_of_injOn]
  · rfl
  · intro s _ s' _ h; exact SemLoc.dma.inj (Prod.mk.inj h).2
  · intro g hg
    obtain ⟨s, hs, rfl⟩ := Finset.mem_image.mp hg
    exact mem_ownCells.mpr ⟨rfl, scoped_sems s hs⟩

/-- A tile's buffers are the ones the kernel uses and the rest. -/
theorem bufs_cut : (ownBufs (tile d i) : sProp 𝕄)
    = iprop((bigSep bufsOf fun b => iprop(∃ f, (tile d i).loc b ↦{fullShare} f)) ∗ restB d i) := by
  unfold SparseCore.Cfg.ownBufs restB
  rw [bigSep_sdiff_split (t := bufsOf.image (refOf d i)), SparseCore.bigSep_image_of_injOn]
  · rfl
  · intro s _ s' _ h; exact Proc.devRef_injective _ h
  · intro g hg
    obtain ⟨b, hb, rfl⟩ := Finset.mem_image.mp hg
    refine SparseCore.Cfg.mem_ownRefs_of_owner ?_
    simp only [bufsOf, Finset.mem_insert, Finset.mem_singleton] at hb
    rcases hb with rfl | rfl | rfl | rfl | rfl | rfl | rfl | rfl <;> rfl

variable {d i} in
/-- A buffer owned whole, whatever it holds. -/
theorem owned_whole {sp : Space} {b : Memref sig .scVector sp S16x768 .f32} (hb : b.IsWhole) :
    owned (F := F) d i b = iprop(∃ f, (View.loc (tile d i) b.view) ↦{fullShare} f) := by
  unfold owned holds
  rw [hb.set_eq_univ]
  have h1 : (iprop(∃ X, ∃ f : Buf (Elt F) (View.loc (tile d i) b.view), ⌜b.view.read (Elt F) f = X⌝ ∗ (View.loc (tile d i) b.view) ↦{fullShare} f) : sProp 𝕄)
      ⊢ iprop(∃ f, (View.loc (tile d i) b.view) ↦{fullShare} f) := by
    iintro ⟨%X, %f, -, H⟩; iexists f; iexact H
  have h2 : (iprop(∃ f, (View.loc (tile d i) b.view) ↦{fullShare} f) : sProp 𝕄)
      ⊢ iprop(∃ X, ∃ f : Buf (Elt F) (View.loc (tile d i) b.view), ⌜b.view.read (Elt F) f = X⌝ ∗ (View.loc (tile d i) b.view) ↦{fullShare} f) := by
    iintro ⟨%f, H⟩; iexists _; iexists f; isplitr; · ipureintro; rfl
    iexact H
  exact equiv_iff.mp ⟨h1, h2⟩

/-- What a tile works in, out of all that is its own. -/
theorem own_cut : (iprop(ownBufs (tile d i) ∗ ownSems0 (tile d i)) : sProp 𝕄)
    = iprop((free d i 0 ∗ free d i 1 ∗ free d i 2 ∗ free d i 3 ∗ free d i 4 ∗ free d i 5 ∗ freeT d i 0 ∗ freeT d i 1) ∗ restB d i ∗ restS d i) := by
  have hB : (iprop((∃ f, (tile d i).loc cc0_scratch0 ↦{fullShare} f) ∗ (∃ f, (tile d i).loc cc0_scratch1 ↦{fullShare} f)
        ∗ (∃ f, (tile d i).loc cc0_scratch2 ↦{fullShare} f) ∗ (∃ f, (tile d i).loc cc0_scratch3 ↦{fullShare} f)
        ∗ (∃ f, (tile d i).loc cc0_scratch4 ↦{fullShare} f) ∗ (∃ f, (tile d i).loc cc0_scratch5 ↦{fullShare} f)
        ∗ (∃ f, (tile d i).loc cc0_scratch6 ↦{fullShare} f) ∗ (∃ f, (tile d i).loc cc0_scratch7 ↦{fullShare} f)) : sProp 𝕄)
      = iprop(owned d i (xb 0) ∗ owned d i (xb 1) ∗ owned d i (xb 2) ∗ owned d i (xb 3) ∗ owned d i (xb 4) ∗ owned d i (xb 5)
        ∗ owned d i (tb 0) ∗ owned d i (tb 1)) := by
    simp only [owned_whole (xb_whole _), owned_whole (tb_whole _)]
    rfl
  rw [sems_cut, bufs_cut, over_sems, over_bufs, hB]
  have h1 : iprop(((owned d i (xb 0) ∗ owned d i (xb 1) ∗ owned d i (xb 2) ∗ owned d i (xb 3) ∗ owned d i (xb 4) ∗ owned d i (xb 5)
        ∗ owned d i (tb 0) ∗ owned d i (tb 1)) ∗ restB d i) ∗ (idle d i (xs 0) ∗ idle d i (os 0) ∗ idle d i (xs 1) ∗ idle d i (os 1) ∗ idle d i (xs 2)
        ∗ idle d i (os 2) ∗ idle d i (xs 3) ∗ idle d i (os 3) ∗ idle d i (xs 4) ∗ idle d i (os 4) ∗ idle d i (xs 5) ∗ idle d i (os 5)
        ∗ idle d i (ts 0) ∗ idle d i (ts 1)) ∗ restS d i)
      ⊣⊢ (iprop((free d i 0 ∗ free d i 1 ∗ free d i 2 ∗ free d i 3 ∗ free d i 4 ∗ free d i 5 ∗ freeT d i 0 ∗ freeT d i 1) ∗ restB d i ∗ restS d i) : sProp 𝕄) := by
    unfold free freeT
    rw [show pOf (cN 0) = 0 from rfl, show pOf (cN 1) = 1 from rfl]
    constructor
    · iintro ⟨⟨⟨B0, B1, B2, B3, B4, B5, T0, T1⟩, HB⟩, ⟨x0, o0, x1, o1, x2, o2, x3, o3, x4, o4, x5, o5, t0, t1⟩, HS⟩
      iframe
    · iintro ⟨⟨⟨B0, x0, o0⟩, ⟨B1, x1, o1⟩, ⟨B2, x2, o2⟩, ⟨B3, x3, o3⟩, ⟨B4, x4, o4⟩, ⟨B5, x5, o5⟩, ⟨T0, t0⟩, T1, t1⟩, HB, HS⟩
      iframe
  exact equiv_iff.mp ⟨h1.1, h1.2⟩

end Own

/-! ## A tile's task -/

/-- Along blocks, one after another. -/
theorem each_mono {a b : ℕ} {Φ Ψ : ℕ → sProp 𝕄} (h : ∀ j, Φ j ⊢ Ψ j) : each a b Φ ⊢ each a b Ψ :=
  bigSep_mono fun j _ => h j

section Task

variable (d : Dev nD) (i : grid0.Coords)

/-- What a tile is lent is its blocks of `x` and of the table, as they were, and its blocks of the result. -/
theorem lend_in : lend m d i (m (oLoc d)) ⊢
    iprop(each 0 64 (fun j => holds d i (xrow i j) (xIn d m i j)) ∗ each 0 16 (fun c => holds d i (trow i c) (tIn d m i c))
      ∗ each 0 64 (fun j => owned (F := F) d i (orow i j))) := by
  unfold lend
  refine BIClass.sep_mono (each_mono fun j => holds_of_pts (xrow i j) (m (xLoc d))) (BIClass.sep_mono (each_mono fun c => holds_of_pts (trow i c) (m (tLoc d)))
    (each_mono fun j => ?_))
  refine (holds_of_pts (i := i) (orow i j) (m (oLoc d))).trans ?_
  unfold owned
  iintro H; iexists _; iexact H

/-- Its blocks with the sums written are what it gives back. -/
theorem lend_out : iprop(each 0 64 (fun j => holds d i (xrow i j) (xIn d m i j)) ∗ each 0 16 (fun c => holds d i (trow i c) (tIn d m i c))
      ∗ each 0 64 (fun j => holds d i (orow i j) (sumOf (xIn d m i) (tIn d m i) j))) ⊢ lend m d i (total d m) := by
  unfold lend
  exact BIClass.sep_mono (each_mono fun j => pts_of_holds (xrow i j) (m (xLoc d)) rfl) (BIClass.sep_mono (each_mono fun c => pts_of_holds (trow i c) (m (tLoc d)) rfl)
    (each_mono fun j => pts_of_holds (orow i j) (total d m) (read_total d m i j)))

/-- The task takes its blocks as the launch finds them to its blocks with the sums in the result's. -/
theorem tile_task (hF : (K (F := F)).Facts) (O : CellTallies nD τ sig (HIx 1)) (W : Waits sig (HIx 1)) (hO : ∀ g, O g none = 0) :
    iprop(levAts (K (F := F)).L (K (F := F)).lev ∗ emp ∗ lend m d i (m (oLoc d)) ∗ scopedBufs (tile d i) ∗ scopedSems0 (tile d i) ∗ owes (tile d i) O W)
      ⊢ wp frame (wpE (defs₀ (F := F)) Variants.none (tile d i) none) Set.univ (body i)
          fun _ => iprop(lend m d i (total d m) ∗ scopedBufs (tile d i) ∗ scopedSems0 (tile d i)
            ∗ ∃ W', ⌜∀ p ∈ W', p ∈ W ∨ p.2 = none⌝ ∗ owes (tile d i) O W') := by
  rw [(K (F := F)).scopedBufs_V hF d ((i 0).castLE hcore0) ((i 1).castLE hsub0),
    SparseCore.Cfg.scopedSems0_V (Val := Elt F) d ((i 0).castLE hcore0) ((i 1).castLE hsub0)]
  iintro ⟨#Hlv, -, Hl, HB, HS, HO⟩
  ihave Hl := (lend_in m d i) $$ Hl
  icases Hl with ⟨Hx, Ht, Ho⟩
  ihave Hown := (Entails.of_eq (own_cut (F := F) d i)) $$ [HB HS]
  · isplitl [HB] <;> iassumption
  icases Hown with ⟨⟨H0, H1, H2, H3, H4, H5, T0, T1⟩, HB, HS⟩
  ihave Hmw := ((K (F := F)).mayWaits_none (thr := tile d i) hO) $$ Hlv
  iapply (Does.last (does_body (d := d) (i := i) (X := xIn d m i) (T := tIn d m i) (O := O) (W := W))) $$ [Hx Ht Ho H0 H1 H2 H3 H4 H5 T0 T1 Hmw HO]
  · unfold work dues
    isplitl [Hx]; · iexact Hx
    isplitl [Ht]; · iexact Ht
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [T0]; · iexact T0
    isplitl [T1]; · iexact T1
    isplitl [Hmw]; · iexact Hmw
    iexists W; isplitr; · ipureintro; exact fun p hp => .inl hp
    iexact HO
  unfold work dues
  iintro ⟨Hx, Ht, Ho, H0, H1, H2, H3, H4, H5, T0, T1, -, HO⟩
  isplitl [Hx Ht Ho]
  · iapply (lend_out m d i)
    isplitl [Hx]; · iexact Hx
    isplitl [Ht] <;> iassumption
  ihave Hown := (Entails.of_eq (own_cut (F := F) d i).symm) $$ [HB HS H0 H1 H2 H3 H4 H5 T0 T1]
  · isplitr [HB HS]
    · isplitl [H0]; · iexact H0
      isplitl [H1]; · iexact H1
      isplitl [H2]; · iexact H2
      isplitl [H3]; · iexact H3
      isplitl [H4]; · iexact H4
      isplitl [H5]; · iexact H5
      isplitl [T0] <;> iassumption
    isplitl [HB] <;> iassumption
  icases Hown with ⟨HB, HS⟩
  isplitl [HB]; · iexact HB
  isplitl [HS]; · iexact HS
  iexact HO

end Task

/-! ## The launch theorem's obligations -/

/-- What a tile runs is the printed body at its coordinates. -/
theorem defs₀_vector (c : Fin τ.nSC) (s : Fin τ.nSub) :
    defs₀ (F := F) (.scVector c s) 0 ()
      = SparseCore.onTile hcore0 hsub0 (fun c s => cc0__sc_body (F := F) (coords c s) xA (Memref.isWhole_whole _) tA (Memref.isWhole_whole _) oA (Memref.isWhole_whole _)
      (xb 0) (xb_whole 0) (xb 1) (xb_whole 1) (xb 2) (xb_whole 2) (xb 3) (xb_whole 3) (xb 4) (xb_whole 4) (xb 5) (xb_whole 5)
      (tb 0) (tb_whole 0) (tb 1) (tb_whole 1)
      cc0_scratch8 cc0_scratch9 cc0_scratch10 cc0_scratch11 cc0_scratch12 cc0_scratch13 cc0_scratch14 cc0_scratch15
      cc0_scratch16 cc0_scratch17 cc0_scratch18 cc0_scratch19 cc0_scratch20 cc0_scratch21) ⟨⟩ c s := rfl

/-- A tile that has waited only on its own semaphores has done no more than the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile, lent its blocks, runs the body and gives them back with the sums. -/
theorem tileObl (hF : (K (F := F)).Facts) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) Variants.none _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte, body_eq]
  exact (tile_task m d (coords ⟨_, hc.1⟩ ⟨_, hc.2⟩) hF O W hO).trans (wp_mono frame _ _ fun _ => obl_post)

/-- Counting along an equal number. -/
theorem bigSep_cast {n k : ℕ} (h : n = k) (Φ : Fin k → sProp 𝕄) : (bigSep Finset.univ fun c : Fin n => Φ (Fin.cast h c)) = bigSep Finset.univ Φ := by
  subst h; rfl

/-- What is handed to a core and taken back from it, before and after its tiles share it. -/
theorem P_st (d : Dev nD) (c : Fin ((K (F := F)).nCore 0)) : (P m).st 0 d c = lendCore m d (Fin.cast nCore_zero c) (m (oLoc d)) := by
  simp only [P]
theorem P_dn (d : Dev nD) (c : Fin ((K (F := F)).nCore 0)) : (P m).dn 0 d c = lendCore m d (Fin.cast nCore_zero c) (total d m) := by
  simp only [P]
theorem P_go (d : Dev nD) (c : Fin ((K (F := F)).nCore 0)) : (bigSep Finset.univ fun s => (P m).go 0 d c s) = lendCore m d (Fin.cast nCore_zero c) (m (oLoc d)) :=
  bigSep_cast nSub_zero fun s => lend m d (coords (Fin.cast nCore_zero c) s) (m (oLoc d))
theorem P_td (d : Dev nD) (c : Fin ((K (F := F)).nCore 0)) : (bigSep Finset.univ fun s => (P m).td 0 d c s) = lendCore m d (Fin.cast nCore_zero c) (total d m) :=
  bigSep_cast nSub_zero fun s => lend m d (coords (Fin.cast nCore_zero c) s) (total d m)

/-- A core's share is its tiles' shares. -/
theorem vecSplit : (K (F := F)).VecSplit' (P m) 0 := by
  intro d c
  rw [P_st, P_dn, P_go, P_td]
  iintro H; imodintro
  isplitl [H]; · iexact H
  iintro H; iexact H

/-! ## The launch element of the ghost state -/

/-- The ghost state at the launch: the handshakes' rounds, and no transfer counted. -/
def u₀ : UU := (initOf (K (F := F)).hsCells (K (F := F)).hsToks, 1)

/-- Nothing, any number of times, is nothing. -/
theorem bigSep_emp' {I : Type} (s : Finset I) : (bigSep s fun _ => iprop(emp)) = (iprop(emp) : sProp 𝕄) := bigSep_emp_const s

/-- From it come the handshakes' cells and tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The arrays of @main are `x`, the table and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The three arrays when the call has ended. -/
abbrev FIN (d : Dev nD) : sProp 𝕄 :=
  iprop((xLoc d ↦{fullShare} m (xLoc d)) ∗ (tLoc d ↦{fullShare} m (tLoc d)) ∗ oLoc d ↦{fullShare} total d m)

/-- All cores together are handed the three arrays, and give them back with the result written. -/
theorem st_all (d : Dev nD) : (bigSep Finset.univ fun c : Fin ((K (F := F)).nCore 0) => (P m).st 0 d c)
    = iprop((xLoc d ↦{fullShare} m (xLoc d)) ∗ (tLoc d ↦{fullShare} m (tLoc d)) ∗ oLoc d ↦{fullShare} m (oLoc d)) :=
  (bigSep_cast nCore_zero fun c => lendCore m d c (m (oLoc d))).trans (lend_all m d _)
theorem dn_all (d : Dev nD) : (bigSep Finset.univ fun c : Fin ((K (F := F)).nCore 0) => (P m).dn 0 d c) = FIN m d :=
  (bigSep_cast nCore_zero fun c => lendCore m d c (total d m)).trans (lend_all m d _)

/-- `@main` on a device's TensorCore is the one call: it leaves the result in its array, and the other two as they were. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st_all]; iexact Harr
  iintro ⟨Hst, Hdn⟩
  ihave Harr := (Entails.of_eq (dn_all m d)) $$ Hdn
  imodintro
  isplitl [Hst]; · iexact Hst
  isplitl [Harr]; · iexact Harr
  isplitl [Hb] <;> iassumption

/-- What a device's memory holds at the end. -/
def fq (d : Dev nD) (s' : Phys nD τ sig (Elt F)) : Prop :=
  s'.mem.mem (xLoc d) = m (xLoc d) ∧ s'.mem.mem (tLoc d) = m (tLoc d) ∧ s'.mem.mem (oLoc d) = total d m

/-- The ownership that @main ends with says so of the memory. -/
theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := total d m)) $$ [HSI Ho]
  · isplitl [HSI] <;> iassumption
  icases H with %h3
  ipureintro
  exact ⟨funext fun y => h1 y (Finset.mem_univ y), funext fun y => h2 y (Finset.mem_univ y), funext fun y => h3 y (Finset.mem_univ y)⟩

/-! ## The program's run -/

/-- At the end of a run: the arguments as they were, the result their sum, every semaphore at zero. -/
def QC : PUnit × MemSt nD τ sig (Elt F) → Prop := fun r =>
  (∀ d : Dev nD, r.2.mem (xLoc d) = m (xLoc d) ∧ r.2.mem (tLoc d) = m (tLoc d) ∧ r.2.mem (oLoc d) = total d m) ∧ r.2.sem = fun _ => 0

/-- THE RUN: from any memory with every counter at zero, every weakly fair execution of the kernel ends with `x` and the
    table unchanged, the result holding their sum, and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Pos
-- ==== Proof.RefValue.lean ====
module

public import proofs.«01_k».proof.Proof.Gen.ReferenceIdeal.Run
public import Idealize.ShloMosaic.Lib.Routing.Ops
public import Idealize.ShloMosaic.Lib.ReduceAll

@[expose] public section

noncomputable section

/-! The reference's result, read at an index: the table's row at the position, added to `x`. -/

namespace Cert.ReferenceIdeal.RefValue

open Cert.ReferenceIdeal Cert.ReferenceIdeal.Gen Idealize.ShloMosaic Idealize.ShloMosaic.ValueIdx Idealize.ShloMosaic.StableHlo

variable {F : FTy → Type} [FloatOps F]

/-- The positions `0, 1, …, 8191` after the wrap of negative ones, as the gather's start indices. -/
abbrev wrapped : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)
/-- The wrapped positions as a column, which the gather takes. -/
abbrev starts : IVec S8192x1 32 := broadcastInDim S8192x1 ![0] bcast_S8192_S8192x1_0 wrapped

/-- Which positions are within the table. -/
abbrev inside : IVec S8192x1 1 :=
  andi (cmpi .sge starts (broadcastInDim S8192x1 ![] bcast_S_S8192x1 (constantI S_ 32 0#32)))
    (cmpi .sle starts (broadcastInDim S8192x1 ![0, 1] bcast_S1x1_S8192x1_0_1 (broadcastInDim S1x1 ![1] bcast_S1_S1x1_1 (constantI S1 32 8191#32))))

/-- A position is a small number: its word is neither negative nor past the table's end. -/
theorem small (n : ℕ) (h : n < 8192) : (BitVec.ofNat 32 n).toInt = (n : ℤ) := by
  rw [BitVec.toInt_eq_toNat_of_lt (by rw [BitVec.toNat_ofNat]; omega), BitVec.toNat_ofNat]; omega

/-- Such a word is not below zero, is at least zero, and is at most the last position. -/
theorem not_negative (n : ℕ) (h : n < 8192) : IntOp.cmpi .slt (BitVec.ofNat 32 n) 0#32 = 0#1 := by
  have h0 : ¬((n : ℤ) < 0) := by omega
  simp [IntOp.cmpi, BitVec.slt, small n h, h0]
theorem from_zero (n : ℕ) (h : n < 8192) : IntOp.cmpi .sge (BitVec.ofNat 32 n) 0#32 = 1#1 := by
  simp [IntOp.cmpi, BitVec.sle, small n h]
theorem to_last (n : ℕ) (h : n < 8192) : IntOp.cmpi .sle (BitVec.ofNat 32 n) 8191#32 = 1#1 := by
  have h1 : (8191#32 : BitVec 32).toInt = 8191 := rfl
  have h2 : (n : ℤ) ≤ 8191 := by omega
  simp [IntOp.cmpi, BitVec.sle, small n h, h1, h2]

/-- No position is negative, so the wrap changes none. -/
theorem wrapped_apply (j : S8192.Idx) : wrapped j = BitVec.ofNat 32 (j 0).val := by
  have hj : (j 0).val < 8192 := (j 0).isLt
  show Scalar.select (IntOp.cmpi .slt (BitVec.ofNat 32 (j 0).val) 0#32) _ (BitVec.ofNat 32 (j 0).val) = _
  rw [not_negative _ hj, select_zero]

/-- The start index of row `r` is `r`. -/
theorem starts_apply (j : S8192x1.Idx) : starts j = BitVec.ofNat 32 (j 0).val := by
  show wrapped _ = _
  rw [wrapped_apply]
  rfl

/-- Every position is within the table. -/
theorem inside_apply (j : S8192x1.Idx) : inside j = 1#1 := by
  have hj : (j 0).val < 8192 := (j 0).isLt
  show IntOp.andi (IntOp.cmpi .sge (starts j) 0#32) (IntOp.cmpi .sle (starts j) 8191#32) = 1#1
  rw [starts_apply]
  exact IntOp.andi_eq_one.2 ⟨from_zero _ hj, to_last _ hj⟩

/-- The rows gathered at the positions are the table. -/
theorem gathered_apply (t : S8192x768.Idx → F .f32) (j : S8192x768.Idx) :
    Host.gather gather_S8192x768_S8192x1_S8192x768_1_0_n_n_0_1_1768 t starts j = t j := by
  obtain ⟨a, b, rfl⟩ : ∃ (a : Fin 8192) (b : Fin 768), j = ix2 a b := ⟨j 0, j 1, eq_ix2 j⟩
  exact Routing.gather_row gather_S8192x768_S8192x1_S8192x768_1_0_n_n_0_1_1768 rfl rfl rfl rfl rfl t starts a b a (starts_apply _) (by norm_num)

/-- So the lookup of the positions is the table itself, its guard never replacing an entry. -/
theorem taken (t other : S8192x768.Idx → F .f32) :
    select (broadcastInDim S8192x768 ![0] bcast_S8192_S8192x768_0
        (Host.reduce IntOp.andi inside (constantI S_ 1 1#1) reducesTo_S8192x1_S8192_d1 h_S_))
      (Host.gather gather_S8192x768_S8192x1_S8192x768_1_0_n_n_0_1_1768 t starts) other = t := by
  funext j
  have h1 : broadcastInDim S8192x768 ![0] bcast_S8192_S8192x768_0
      (Host.reduce IntOp.andi inside (constantI S_ 1 1#1) reducesTo_S8192x1_S8192_d1 h_S_) j = 1#1 :=
    Host.reduce_andi_one _ _ _ _ _ rfl inside_apply
  rw [select_apply, h1, select_one, gathered_apply]

/-- The table spread over the batch, read at `(b, s, h)`: its entry `(s, h)`. -/
theorem spread_apply (t : S8192x768.Idx → F .f32) (y : S4x8192x768.Idx) :
    broadcastInDim S4x8192x768 ![0, 1, 2] bcast_S1x8192x768_S4x8192x768_0_1_2
      (broadcastInDim S1x8192x768 ![1, 2] bcast_S8192x768_S1x8192x768_1_2 t) y = t (fun a => y a.succ) := by
  show t _ = t _
  refine congrArg t (funext fun a => ?_)
  match a with
  | ⟨0, _⟩ => rfl
  | ⟨1, _⟩ => rfl

end Cert.ReferenceIdeal.RefValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem

/-- The kernel as printed runs, leaves its arguments as they were and every counter at zero: it is `KernelIdeal`'s own
    text, whose run holds of any float values. -/
theorem frame_kernel : Cert.quiescent_Kernel := fun m ρ _ =>
  (θ_run Cert.KernelIdeal.defs _ _).mono (fun _ h => ⟨fun c => ⟨(h.1 c).1, (h.1 c).2.1⟩, h.2⟩)
    (Cert.KernelIdeal.Pos.run_main (F := Bits) m ρ)

/-- So does the idealized kernel. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Pos.run_main (F := Ideal) m ρ)

/-- So does the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the kernel's sum: `x` at `(b, s, h)` plus the table at `(s, h)`. -/
theorem reference_total (x : Cert.ReferenceIdeal.S4x8192x768.Idx → Ideal .f32) (t other : Cert.ReferenceIdeal.S8192x768.Idx → Ideal .f32) :
    addf x (broadcastInDim Cert.ReferenceIdeal.S4x8192x768 ![0, 1, 2] Cert.ReferenceIdeal.Gen.bcast_S1x8192x768_S4x8192x768_0_1_2
      (broadcastInDim Cert.ReferenceIdeal.S1x8192x768 ![1, 2] Cert.ReferenceIdeal.Gen.bcast_S8192x768_S1x8192x768_1_2
        (select (broadcastInDim Cert.ReferenceIdeal.S8192x768 ![0] Cert.ReferenceIdeal.Gen.bcast_S8192_S8192x768_0
            (Host.reduce IntOp.andi Cert.ReferenceIdeal.RefValue.inside (constantI Cert.ReferenceIdeal.S_ 1 1#1)
              Cert.ReferenceIdeal.Gen.reducesTo_S8192x1_S8192_d1 Cert.ReferenceIdeal.Gen.h_S_))
          (Host.gather Cert.ReferenceIdeal.gather_S8192x768_S8192x1_S8192x768_1_0_n_n_0_1_1768 t Cert.ReferenceIdeal.RefValue.starts) other)))
    = fun y => (FloatOps.addf (x y) (t (Cert.KernelIdeal.Pos.under y)) : Ideal .f32) := by
  rw [Cert.ReferenceIdeal.RefValue.taken]
  funext y
  exact congrArg (fun z => (FloatOps.addf (x y) z : Ideal .f32)) (Cert.ReferenceIdeal.RefValue.spread_apply t y)

/-- From memories that agree on the arguments the kernel and the reference both leave, at every `(b, s, h)`, the sum of
    `x` at `(b, s, h)` and the table at `(s, h)`. -/
theorem algebraic : Cert.algebraic_KernelIdeal_ReferenceIdeal := by
  intro m ρ m' ρ' _ hagree
  refine ⟨fun c => Cert.KernelIdeal.Pos.total c m,
    (θ_run Cert.KernelIdeal.defs _ _).mono (fun _ h c => ⟨(h.1 c).2.2, (h.1 c).1, (h.1 c).2.1⟩)
      (Cert.KernelIdeal.Pos.run_main (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact reference_total _ _ _

/-- The certificate's claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
